-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![2, 1024, 16, 64]⟩ ⟨4, ![2, 1024, 32, 64]⟩ (Layout.meshBlock [2, 2] ![[], [], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨3, ![2, 512, 2048]⟩ ⟨3, ![2, 1024, 2048]⟩ (Layout.meshBlock [2, 2] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x16x64 : Shape := ⟨4, ![2, 1024, 16, 64]⟩
abbrev S1024x2048 : Shape := ⟨2, ![1024, 2048]⟩
abbrev S2x1024x1024 : Shape := ⟨3, ![2, 1024, 1024]⟩
abbrev S2x512x2048 : Shape := ⟨3, ![2, 512, 2048]⟩
abbrev S16x128x1024 : Shape := ⟨3, ![16, 128, 1024]⟩
abbrev S16 : Shape := ⟨1, ![16]⟩
abbrev S4 : Shape := ⟨1, ![4]⟩
abbrev S8 : Shape := ⟨1, ![8]⟩
abbrev S1 : Shape := ⟨1, ![1]⟩
abbrev S_ : Shape := ⟨0, ![]⟩
abbrev S1024x512 : Shape := ⟨2, ![1024, 512]⟩
abbrev S1x128x1024 : Shape := ⟨3, ![1, 128, 1024]⟩
abbrev S128x1024 : Shape := ⟨2, ![128, 1024]⟩
abbrev S128x512 : Shape := ⟨2, ![128, 512]⟩
abbrev S1x128x512 : Shape := ⟨3, ![1, 128, 512]⟩
abbrev S128x2048 : Shape := ⟨2, ![128, 2048]⟩
abbrev S1x128x2048 : Shape := ⟨3, ![1, 128, 2048]⟩

abbrev nBuf : Space → Nat
  | .hbm => 4
  | .vmem => 6
  | .smem => 0
  | _ => 0

abbrev bufTy : (tb : Table) → Fin (tcTables nBuf tb) → BufTy
  | .hbm, ⟨0, _⟩ => ⟨S2x1024x16x64, .f32⟩
  | .hbm, ⟨1, _⟩ => ⟨S1024x2048, .f32⟩
  | .hbm, ⟨2, _⟩ => ⟨S2x1024x1024, .f32⟩
  | .hbm, ⟨3, _⟩ => ⟨S2x512x2048, .f32⟩
  | .local _ .vmem, ⟨0, _⟩ => ⟨S2x512x2048, .f32⟩
  | .local _ .vmem, ⟨1, _⟩ => ⟨S16x128x1024, .f32⟩
  | .local _ .vmem, ⟨2, _⟩ => ⟨S1024x2048, .f32⟩
  | .local _ .vmem, ⟨3, _⟩ => ⟨S1024x2048, .bf16⟩
  | .local _ .vmem, ⟨4, _⟩ => ⟨S2x512x2048, .bf16⟩
  | .local _ .vmem, ⟨5, _⟩ => ⟨S2x512x2048, .bf16⟩
  | _, _ => ⟨S2x1024x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c0_i32_21 : BitVec 32) : Fin 3 → Nat :=
  let c0_i32_22 : BitVec 32 := 0#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_3 v5
  let c512_i32_4 : BitVec 32 := 512#32
  let v9 : BitVec 32 := Scalar.muli v8 c512_i32_4
  let v26 : BitVec 32 := Scalar.addi v9 c0_i32_21
  let c0_i32_27 : BitVec 32 := 0#32
  ![0, v26.toNat, 0]
def k0_off2 (d0 : Dev nD) (c0_i32_46 : BitVec 32) : Fin 3 → Nat :=
  let c1_i32_47 : BitVec 32 := 1#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_3 v5
  let c512_i32_4 : BitVec 32 := 512#32
  let v9 : BitVec 32 := Scalar.muli v8 c512_i32_4
  let v54 : BitVec 32 := Scalar.addi v9 c0_i32_46
  let c0_i32_51 : BitVec 32 := 0#32
  ![1, v54.toNat, 0]
def k0_off3 (d0 : Dev nD) (c0_i32_70 : BitVec 32) : Fin 3 → Nat :=
  let c0_i32_71 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v7 : BitVec 32 := Scalar.muli v5 c512_i32
  let v82 : BitVec 32 := Scalar.addi v7 c0_i32_70
  let c0_i32_75 : BitVec 32 := 0#32
  ![0, v82.toNat, 0]
def k0_off4 (d0 : Dev nD) (c0_i32_94 : BitVec 32) : Fin 3 → Nat :=
  let c1_i32_95 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v7 : BitVec 32 := Scalar.muli v5 c512_i32
  let v110 : BitVec 32 := Scalar.addi v7 c0_i32_94
  let c0_i32_99 : BitVec 32 := 0#32
  ![1, v110.toNat, 0]
def k0_dev1 (d0 : Dev nD) : Nat :=
  let c0_i32_120 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_119 : BitVec 32 := 2#32
  let v139 : BitVec 32 := Scalar.muli v2 c2_i32_119
  let v140 : BitVec 32 := Scalar.addi c0_i32_120 v139
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_121 : BitVec 32 := 1#32
  let v141 : BitVec 32 := Scalar.muli v6 c1_i32_121
  let v142 : BitVec 32 := Scalar.addi v140 v141
  v142.toNat
def k0_dev2 (d0 : Dev nD) : Nat :=
  let c0_i32_150 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_149 : BitVec 32 := 2#32
  let v167 : BitVec 32 := Scalar.muli v2 c2_i32_149
  let v168 : BitVec 32 := Scalar.addi c0_i32_150 v167
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_151 : BitVec 32 := 1#32
  let v169 : BitVec 32 := Scalar.muli v6 c1_i32_151
  let v170 : BitVec 32 := Scalar.addi v168 v169
  v170.toNat
def k0_dev3 (d0 : Dev nD) : Nat :=
  let c0_i32_175 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_174 : BitVec 32 := 2#32
  let v194 : BitVec 32 := Scalar.muli v2 c2_i32_174
  let v195 : BitVec 32 := Scalar.addi c0_i32_175 v194
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_176 : BitVec 32 := 1#32
  let v196 : BitVec 32 := Scalar.muli v6 c1_i32_176
  let v197 : BitVec 32 := Scalar.addi v195 v196
  v197.toNat
def k0_dev4 (d0 : Dev nD) : Nat :=
  let c0_i32_200 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_199 : BitVec 32 := 2#32
  let v221 : BitVec 32 := Scalar.muli v2 c2_i32_199
  let v222 : BitVec 32 := Scalar.addi c0_i32_200 v221
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_201 : BitVec 32 := 1#32
  let v223 : BitVec 32 := Scalar.muli v6 c1_i32_201
  let v224 : BitVec 32 := Scalar.addi v222 v223
  v224.toNat
def k0_dev5 (d0 : Dev nD) : Nat :=
  let c0_i32_225 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_224 : BitVec 32 := 2#32
  let v248 : BitVec 32 := Scalar.muli v2 c2_i32_224
  let v249 : BitVec 32 := Scalar.addi c0_i32_225 v248
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_226 : BitVec 32 := 1#32
  let v250 : BitVec 32 := Scalar.muli v6 c1_i32_226
  let v251 : BitVec 32 := Scalar.addi v249 v250
  v251.toNat
def k0_dev6 (d0 : Dev nD) : Nat :=
  let c0_i32_249 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_248 : BitVec 32 := 2#32
  let v275 : BitVec 32 := Scalar.muli v2 c2_i32_248
  let v276 : BitVec 32 := Scalar.addi c0_i32_249 v275
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_250 : BitVec 32 := 1#32
  let v277 : BitVec 32 := Scalar.muli v6 c1_i32_250
  let v278 : BitVec 32 := Scalar.addi v276 v277
  v278.toNat
def k0_dev7 (d0 : Dev nD) : Nat :=
  let c0_i32_273 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_272 : BitVec 32 := 2#32
  let v302 : BitVec 32 := Scalar.muli v2 c2_i32_272
  let v303 : BitVec 32 := Scalar.addi c0_i32_273 v302
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_274 : BitVec 32 := 1#32
  let v304 : BitVec 32 := Scalar.muli v6 c1_i32_274
  let v305 : BitVec 32 := Scalar.addi v303 v304
  v305.toNat
def k0_dev8 (d0 : Dev nD) : Nat :=
  let c0_i32_297 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_296 : BitVec 32 := 2#32
  let v329 : BitVec 32 := Scalar.muli v2 c2_i32_296
  let v330 : BitVec 32 := Scalar.addi c0_i32_297 v329
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_298 : BitVec 32 := 1#32
  let v331 : BitVec 32 := Scalar.muli v6 c1_i32_298
  let v332 : BitVec 32 := Scalar.addi v330 v331
  v332.toNat
def k0_dev9 (d0 : Dev nD) : Nat :=
  let c0_i32_322 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_321 : BitVec 32 := 2#32
  let v356 : BitVec 32 := Scalar.muli v2 c2_i32_321
  let v357 : BitVec 32 := Scalar.addi c0_i32_322 v356
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_323 : BitVec 32 := 1#32
  let v358 : BitVec 32 := Scalar.muli v6 c1_i32_323
  let v359 : BitVec 32 := Scalar.addi v357 v358
  v359.toNat
def k0_dev10 (d0 : Dev nD) : Nat :=
  let c0_i32_347 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_346 : BitVec 32 := 2#32
  let v383 : BitVec 32 := Scalar.muli v2 c2_i32_346
  let v384 : BitVec 32 := Scalar.addi c0_i32_347 v383
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_348 : BitVec 32 := 1#32
  let v385 : BitVec 32 := Scalar.muli v6 c1_i32_348
  let v386 : BitVec 32 := Scalar.addi v384 v385
  v386.toNat
def k0_dev11 (d0 : Dev nD) : Nat :=
  let c0_i32_372 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_371 : BitVec 32 := 2#32
  let v410 : BitVec 32 := Scalar.muli v2 c2_i32_371
  let v411 : BitVec 32 := Scalar.addi c0_i32_372 v410
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_373 : BitVec 32 := 1#32
  let v412 : BitVec 32 := Scalar.muli v6 c1_i32_373
  let v413 : BitVec 32 := Scalar.addi v411 v412
  v413.toNat
def k0_dev12 (d0 : Dev nD) : Nat :=
  let c0_i32_397 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_396 : BitVec 32 := 2#32
  let v437 : BitVec 32 := Scalar.muli v2 c2_i32_396
  let v438 : BitVec 32 := Scalar.addi c0_i32_397 v437
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_398 : BitVec 32 := 1#32
  let v439 : BitVec 32 := Scalar.muli v6 c1_i32_398
  let v440 : BitVec 32 := Scalar.addi v438 v439
  v440.toNat
abbrev stage0_0 : Fin 1 → Memref sig .tc .vmem S2x512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x1024x32x64 : Shape := ⟨4, ![2, 1024, 32, 64]⟩
abbrev S2048x2048 : Shape := ⟨2, ![2048, 2048]⟩
abbrev S2x1024x2048 : Shape := ⟨3, ![2, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x1024x32x64, .f32⟩
  | .hbm, ⟨1, _⟩ => ⟨S2048x2048, .f32⟩
  | .hbm, ⟨2, _⟩ => ⟨S2x1024x2048, .f32⟩
  | .hbm, ⟨3, _⟩ => ⟨S2x1024x2048, .f32⟩
  | _, _ => ⟨S2x1024x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ideal.Common.lean ====
/-
  The protocol of the kernel, written down before any of its code is run.

  The four devices stand in pairs: a device and its PEER hold different halves of the contraction and produce different
  halves of the rows. Each device multiplies the rows its peer produces by its own half of `Wo`, rounds the product to
  bf16 and copies it into the peer's receive buffer, in ELEVEN pieces: four column pieces of the first 128 rows, then
  seven blocks of 128 rows. Piece `k` has a send semaphore of its own and a receive semaphore of its own.

    * barrier: each device signals its peer's barrier semaphore once. The unit carries the signaller's receive buffer,
      cut into the eleven pieces, and the record that round 0 of each of its receive cells has begun.
    * piece k: the copy pays the sender's own send cell with the piece of the send buffer it read, and the peer's receive
      cell with the piece of the receive buffer, now holding what the sender computed.

  This module names the arrays (what each buffer holds once it is filled, as a function of its index), the cells, the
  schedule of the cells, the levels that order the waits, and the eleven pieces of a buffer.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.Kit
public import Idealize.ShloMosaic.Lib.Pipeline.RegionTalk
public import Idealize.ShloMosaic.Lib.Pipeline.Value
public import Idealize.ShloMosaic.Lib.ValueIdxCore
public import Idealize.ShloMosaic.Lib.Rounds
public import Idealize.ShloMosaic.Lib.Tactic

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Cert.KernelIdeal Cert.KernelIdeal.Gen

variable {F : FTy → Type} [FloatOps F]

/-! ## The ghost state -/

/-- The pipeline library's ghost state, the protocol's, and the counters of the local copies. -/
abbrev UU : Type := UR sig nD τ × (UR sig nD τ × Counters)

local notation "𝕄" => MT nD τ sig Unit (Elt F) ℕ UU ℕ

abbrev EP : Emb (UR sig nD τ) (MT nD τ sig Unit (Elt F) ℕ UU ℕ) := embL

/-- The protocol's component. -/
def ER : Emb (UR sig nD τ) (MT nD τ sig Unit (Elt F) ℕ UU ℕ) :=
  ((Emb.inl : Emb (UR sig nD τ) (UR sig nD τ × Counters)).trans (Emb.inr : Emb (UR sig nD τ × Counters) UU)).trans
    (uEmb (nD := nD) (τ := τ) (sig := sig) (Ix := Unit) (Val := Elt F) (Name := ℕ) (U := UU) (Lvl := ℕ)).toEmb

instance : (ER : Emb (UR sig nD τ) 𝕄).LandsIn (upEmb : UEmb _ 𝕄) := by unfold ER; infer_instance

/-! ## Who talks to whom -/

/-- The peer: the other device of the pair. -/
def pr (c : Dev nD) : Dev nD := ⟨2 * (c.val / 2) + (c.val + 1) % 2, by have : c.val < 4 := c.isLt; show _ < 4; omega⟩

theorem pr_val (c : Dev nD) : (pr c).val = 2 * (c.val / 2) + (c.val + 1) % 2 := rfl
theorem pr_pr (c : Dev nD) : pr (pr c) = c := Fin.ext (by rw [pr_val, pr_val]; omega)
def prE : Dev nD ≃ Dev nD := ⟨pr, pr, pr_pr, pr_pr⟩

theorem dev1 (c : Dev nD) : (⟨k0_dev1 c, k0_dev1_lt c⟩ : Dev nD) = pr c := by revert c; decide
theorem dev2 (c : Dev nD) : (⟨k0_dev2 c, k0_dev2_lt c⟩ : Dev nD) = pr c := by revert c; decide
theorem dev3 (c : Dev nD) : (⟨k0_dev3 c, k0_dev3_lt c⟩ : Dev nD) = pr c := by revert c; decide
theorem dev4 (c : Dev nD) : (⟨k0_dev4 c, k0_dev4_lt c⟩ : Dev nD) = pr c := by revert c; decide
theorem dev5 (c : Dev nD) : (⟨k0_dev5 c, k0_dev5_lt c⟩ : Dev nD) = pr c := by revert c; decide
theorem dev6 (c : Dev nD) : (⟨k0_dev6 c, k0_dev6_lt c⟩ : Dev nD) = pr c := by revert c; decide
theorem dev7 (c : Dev nD) : (⟨k0_dev7 c, k0_dev7_lt c⟩ : Dev nD) = pr c := by revert c; decide
theorem dev8 (c : Dev nD) : (⟨k0_dev8 c, k0_dev8_lt c⟩ : Dev nD) = pr c := by revert c; decide
theorem dev9 (c : Dev nD) : (⟨k0_dev9 c, k0_dev9_lt c⟩ : Dev nD) = pr c := by revert c; decide
theorem dev10 (c : Dev nD) : (⟨k0_dev10 c, k0_dev10_lt c⟩ : Dev nD) = pr c := by revert c; decide
theorem dev11 (c : Dev nD) : (⟨k0_dev11 c, k0_dev11_lt c⟩ : Dev nD) = pr c := by revert c; decide
theorem dev12 (c : Dev nD) : (⟨k0_dev12 c, k0_dev12_lt c⟩ : Dev nD) = pr c := by revert c; decide

/-! ## The buffers, whole and in pieces -/

abbrev xM : Memref sig .tc .hbm S2x1024x1024 .f32 := Memref.whole main_v1
abbrev aM : Memref sig .tc .hbm S1024x2048 .f32 := Memref.whole main_arg1
abbrev oM : Memref sig .tc .vmem S16x128x1024 .f32 := Memref.whole cc0_scratch0
abbrev wM : Memref sig .tc .vmem S1024x2048 .f32 := Memref.whole cc0_scratch1
abbrev bM : Memref sig .tc .vmem S1024x2048 .bf16 := Memref.whole cc0_scratch2
abbrev sM : Memref sig .tc .vmem S2x512x2048 .bf16 := Memref.whole cc0_scratch3
abbrev rM : Memref sig .tc .vmem S2x512x2048 .bf16 := Memref.whole cc0_scratch4
abbrev gM : Memref sig .tc .vmem S2x512x2048 .f32 := Memref.whole cc0_stg0_0

theorem slot_inb (s : Fin 16) : ∀ a, (![s.val, 0, 0] : Fin 3 → ℕ) a + S1x128x1024.size a ≤ S16x128x1024.size a := by
  intro a; have := s.isLt; fin_cases a <;> simp <;> omega
theorem cols_inb (j : Fin 4) : ∀ a, (![0, 512 * j.val] : Fin 2 → ℕ) a + S1024x512.size a ≤ S1024x2048.size a := by
  intro a; have := j.isLt; fin_cases a <;> simp <;> omega
theorem col_inb (j : Fin 4) : ∀ a, (![0, 0, 512 * j.val] : Fin 3 → ℕ) a + S1x128x512.size a ≤ S2x512x2048.size a := by
  intro a; have := j.isLt; fin_cases a <;> simp <;> omega
theorem row_inb (s : Fin 8) : ∀ a, (![s.val / 4, 128 * (s.val % 4), 0] : Fin 3 → ℕ) a + S1x128x2048.size a ≤ S2x512x2048.size a := by
  intro a; have := s.isLt; fin_cases a <;> simp <;> omega

/-- Slot `s` of the staged rows of `O`. -/
abbrev oR (s : Fin 16) : Rect S16x128x1024 := Rect.unit (s := S16x128x1024) ![s.val, 0, 0] S1x128x1024.size (slot_inb s)
/-- Columns `512 j ..` of `Wo`'s half. -/
abbrev wR (j : Fin 4) : Rect S1024x2048 := Rect.unit (s := S1024x2048) ![0, 512 * j.val] S1024x512.size (cols_inb j)
/-- The column pieces of the first block of rows, and the blocks of rows. -/
abbrev colR (j : Fin 4) : Rect S2x512x2048 := Rect.unit (s := S2x512x2048) ![0, 0, 512 * j.val] S1x128x512.size (col_inb j)
abbrev rowR (s : Fin 8) : Rect S2x512x2048 := Rect.unit (s := S2x512x2048) ![s.val / 4, 128 * (s.val % 4), 0] S1x128x2048.size (row_inb s)

/-- Piece `k` of a buffer of products: four column pieces, then the blocks of rows 1 to 7. -/
def pset (k : Fin 11) : Finset S2x512x2048.Idx :=
  if h : k.val < 4 then (colR ⟨k.val, h⟩).set else (rowR ⟨k.val - 3, by have := k.isLt; omega⟩).set

theorem mem_colR (j : Fin 4) (i : S2x512x2048.Idx) :
    i ∈ (colR j).set ↔ (i 0).val = 0 ∧ (i 1).val < 128 ∧ 512 * j.val ≤ (i 2).val ∧ (i 2).val < 512 * j.val + 512 := by
  rw [Rect.mem_set_unit]
  constructor
  · intro h
    have h0 := h 0; have h1 := h 1; have h2 := h 2
    simp at h0 h1 h2
    omega
  · rintro ⟨h0, h1, h2, h3⟩ a
    fin_cases a <;> simp <;> omega

theorem mem_rowR (s : Fin 8) (i : S2x512x2048.Idx) :
    i ∈ (rowR s).set ↔ 4 * (i 0).val + (i 1).val / 128 = s.val := by
  have b0 : (i 0).val < 2 := (i 0).isLt
  have b1 : (i 1).val < 512 := (i 1).isLt
  have b2 : (i 2).val < 2048 := (i 2).isLt
  have hs := s.isLt
  rw [Rect.mem_set_unit]
  constructor
  · intro h
    have h0 := h 0; have h1 := h 1
    simp at h0 h1
    omega
  · intro h a
    fin_cases a <;> simp <;> omega

/-- Which piece an index of a buffer of products lies in. -/
def pieceOf (i : S2x512x2048.Idx) : ℕ :=
  if 4 * (i 0).val + (i 1).val / 128 = 0 then (i 2).val / 512 else 4 * (i 0).val + (i 1).val / 128 + 3

theorem mem_pset (k : Fin 11) (i : S2x512x2048.Idx) : i ∈ pset k ↔ pieceOf i = k.val := by
  have b0 : (i 0).val < 2 := (i 0).isLt
  have b1 : (i 1).val < 512 := (i 1).isLt
  have b2 : (i 2).val < 2048 := (i 2).isLt
  have hk := k.isLt
  unfold pset pieceOf
  split
  · rw [mem_colR]; simp only
    split <;> omega
  · rw [mem_rowR]; simp only
    split <;> omega

theorem pset_disjoint : Set.PairwiseDisjoint (↑(Finset.univ : Finset (Fin 11))) pset := by
  intro k _ k' _ hne
  refine Finset.disjoint_left.mpr fun i h h' => hne (Fin.ext ?_)
  rw [mem_pset] at h h'; omega

theorem pset_cover : (Finset.univ : Finset (Fin 11)).biUnion pset = Finset.univ := by
  refine Finset.eq_univ_iff_forall.mpr fun i => Finset.mem_biUnion.mpr ?_
  have b0 : (i 0).val < 2 := (i 0).isLt
  have b1 : (i 1).val < 512 := (i 1).isLt
  have b2 : (i 2).val < 2048 := (i 2).isLt
  refine ⟨⟨pieceOf i, ?_⟩, Finset.mem_univ _, (mem_pset _ _).mpr rfl⟩
  unfold pieceOf; split <;> omega

/-! ## What the buffers hold -/

variable (m : (ℓ : Loc nD τ sig) → Buf (Elt F) ℓ)

/-- A device's valuation at launch, and after the host's reshape. -/
abbrev V₀ (c : Dev nD) : Valuation τ sig (Elt F) := fun b => m ((c : Dev nD), b)
abbrev V₁ (c : Dev nD) : Valuation τ sig (Elt F) := StableHlo.after hostOps0 (V₀ m c)

/-- Device `c`'s heads of `O`, flattened, and its half of `Wo`. -/
def xV (c : Dev nD) : Vec F S2x1024x1024 .f32 := V₁ m c main_v1
def aV (c : Dev nD) : Vec F S1024x2048 .f32 := V₁ m c main_arg1

/-- The first of the rows of the half `h` of the rows. -/
abbrev half (c : Dev nD) : ℕ := 512 * (c.val % 2)

/-- The rows of `O` staged in slot `s`: slots 0 to 7 hold the peer's rows, slots 8 to 15 the device's own; in either
    half the first four slots are of batch 0. -/
def oV (c : Dev nD) : Vec F S16x128x1024 .f32 := fun i =>
  xV m c (ix3 ⟨(i 0).val / 4 % 2, Nat.mod_lt _ (by decide)⟩
    ⟨(if (i 0).val < 8 then half (pr c) else half c) + 128 * ((i 0).val % 4) + (i 1).val, by
      have h1 : (i 1).val < 128 := (i 1).isLt
      have := Nat.mod_lt c.val (show 0 < 2 by decide)
      have := Nat.mod_lt (pr c).val (show 0 < 2 by decide)
      unfold half
      split <;> omega⟩
    (i 2))

/-- Slot `s` as a load reads it. -/
def oB (c : Dev nD) (s : Fin 16) : Vec F S1x128x1024 .f32 := fun i => oV m c (ix3 s (i 1) (i 2))

/-- `Wo`'s half rounded to bf16, whole and by columns. -/
def wV (c : Dev nD) : FVec F S1024x2048 .bf16 := truncf .bf16 (aV m c) bitsLt_bf16_f32
def wB (c : Dev nD) (j : Fin 4) : FVec F S1024x512 .bf16 := fun i => wV m c (ix2 (i 0) ⟨512 * j.val + (i 1).val, by
  have h1 : (i 1).val < 512 := (i 1).isLt
  have := j.isLt
  omega⟩)

/-- The bf16 products sent: a column piece of block 0, and the blocks of rows. -/
def colV (c : Dev nD) (j : Fin 4) : FVec F S1x128x512 .bf16 := k0_pay7 (k0_pay2 (oB m c 0)) (wB m c j)
def rowV (c : Dev nD) (s : Fin 16) : FVec F S1x128x2048 .bf16 := k0_pay12 (oB m c s) (wV m c)

/-- The send buffer, filled. -/
def sV (c : Dev nD) : Vec F S2x512x2048 .bf16 := fun i =>
  if 4 * (i 0).val + (i 1).val / 128 = 0 then
    colV m c ⟨(i 2).val / 512, by have b2 : (i 2).val < 2048 := (i 2).isLt; omega⟩
      (ix3 0 ⟨(i 1).val % 128, Nat.mod_lt _ (by decide)⟩ ⟨(i 2).val % 512, Nat.mod_lt _ (by decide)⟩)
  else
    rowV m c ⟨4 * (i 0).val + (i 1).val / 128, by
        have b0 : (i 0).val < 2 := (i 0).isLt
        have b1 : (i 1).val < 512 := (i 1).isLt
        omega⟩
      (ix3 0 ⟨(i 1).val % 128, Nat.mod_lt _ (by decide)⟩ (i 2))

/-- The receive buffer, filled: what the peer sent. -/
def rV (c : Dev nD) : Vec F S2x512x2048 .bf16 := sV m (pr c)

/-- The product of the device's own rows by its half of `Wo`, block by block. -/
def gB (c : Dev nD) (s : Fin 8) : FVec F S1x128x2048 .f32 := k0_pay19 (oB m c ⟨8 + s.val, by have := s.isLt; omega⟩) (wV m c)

/-- The result window once its eight blocks hold the device's own products, and once the received ones are added. -/
def gV (c : Dev nD) : Vec F S2x512x2048 .f32 := fun i =>
  gB m c ⟨4 * (i 0).val + (i 1).val / 128, by
      have b0 : (i 0).val < 2 := (i 0).isLt
      have b1 : (i 1).val < 512 := (i 1).isLt
      omega⟩ (ix3 0 ⟨(i 1).val % 128, Nat.mod_lt _ (by decide)⟩ (i 2))
def outV (c : Dev nD) : Vec F S2x512x2048 .f32 := addf (gV m c) (extf .f32 (rV m c) bitsLt_bf16_f32)

/-! ## Cells -/

def sendS (k : Fin 11) : DmaSem sig := ⟨if k.val < 4 then 37 + k.val else 18 + k.val, by
  have := k.isLt; show _ < 45; split <;> omega⟩
def recvS (k : Fin 11) : DmaSem sig := ⟨if k.val < 4 then 41 + k.val else 26 + k.val, by
  have := k.isLt; show _ < 45; split <;> omega⟩

abbrev barCell (c : Dev nD) : GSem nD τ sig := ((c : Thread nD τ), .reg barrier0)
abbrev sendCell (c : Dev nD) (k : Fin 11) : GSem nD τ sig := ((c : Thread nD τ), .dma (sendS k))
abbrev recvCell (c : Dev nD) (k : Fin 11) : GSem nD τ sig := ((c : Thread nD τ), .dma (recvS k))

/-- What a copy of piece `k` credits. -/
def amt (k : Fin 11) : ℕ :=
  if k.val < 4 then (View.dmaCredit ((sM.slice (colR 0) (fun _ => rfl)).squeeze S128x512 squeezes_S1x128x512_S128x512).view)
  else (View.dmaCredit ((sM.slice (rowR 1) (fun _ => rfl)).squeeze S128x2048 squeezes_S1x128x2048_S128x2048).view)

theorem amt_pos (k : Fin 11) : 0 < amt k := by
  unfold amt; split <;> exact View.dmaCredit_pos _ (by decide)

/-- Piece `k` of device `c`'s send and receive buffers, at contents `f`. -/
abbrev sP (c : Dev nD) (k : Fin 11) (f : Vec F S2x512x2048 .bf16) : sProp 𝕄 :=
  ((c : Thread nD τ).loc cc0_scratch3) ↦[pset k]{fullShare} f
abbrev rP (c : Dev nD) (k : Fin 11) (f : Vec F S2x512x2048 .bf16) : sProp 𝕄 :=
  ((c : Thread nD τ).loc cc0_scratch4) ↦[pset k]{fullShare} f

/-! ## The schedule: one round, one payer per cell -/

/-- Paid to device `c`'s barrier cell by its peer. -/
def barPay (c : Dev nD) : sProp 𝕄 :=
  bigSep Finset.univ fun k : Fin 11 => iprop((∃ f, rP (pr c) k f) ∗ reached ER (recvCell (pr c) k) 0)
/-- Paid to the receive and the send cell of piece `k`. -/
def recvPay (c : Dev nD) (k : Fin 11) : sProp 𝕄 := rP c k (rV m c)
def sendPay (c : Dev nD) (k : Fin 11) : sProp 𝕄 := sP c k (sV m c)

/-- The piece a send or receive semaphore belongs to. -/
def kindOf (sm : SemLoc sig) : Option (Bool × Fin 11) :=
  match sm with
  | .reg _ => none
  | .dma d => (List.finRange 11).foldr (fun k acc => if d = sendS k then some (false, k) else if d = recvS k then some (true, k) else acc) none

theorem kindOf_send (k : Fin 11) : kindOf (.dma (sendS k)) = some (false, k) := by revert k; decide
theorem kindOf_recv (k : Fin 11) : kindOf (.dma (recvS k)) = some (true, k) := by revert k; decide

/-- The schedule. -/
def rd : Rounds.Schedule (GSem nD τ sig) Unit 𝕄 where
  duties g r := if r = 0 ∧ g.1.2 = .tc ∧ (g.2 = .reg barrier0 ∨ (kindOf g.2).isSome) then {()} else ∅
  unitless _ := False
  amount g _ _ := match kindOf g.2 with | none => 1 | some p => amt p.2
  payload g _ _ := match kindOf g.2 with
    | none => barPay g.1.1
    | some (false, k) => sendPay m g.1.1 k
    | some (true, k) => recvPay m g.1.1 k
  amount_pos g _ _ _ := by
    cases kindOf g.2 with
    | none => exact Nat.one_pos
    | some p => exact amt_pos p.2

instance rd_storable (g : GSem nD τ sig) (r : ℕ) (d : Unit) : BI.Storable (upEmb : UEmb _ 𝕄) ((rd (F := F) m).payload g r d) := by
  show BI.Storable upEmb (match kindOf g.2 with
    | none => barPay g.1.1
    | some (false, k) => sendPay m g.1.1 k
    | some (true, k) => recvPay m g.1.1 k)
  unfold barPay recvPay sendPay
  split <;> infer_instance

section Tables
variable (c : Dev nD) (k : Fin 11) (u : Unit)

theorem duties_bar : (rd (F := F) m).duties (barCell c) 0 = {()} := by dsimp only [rd]; exact if_pos ⟨rfl, rfl, .inl rfl⟩
theorem duties_send : (rd (F := F) m).duties (sendCell c k) 0 = {()} := by dsimp only [rd]; exact if_pos ⟨rfl, rfl, .inr (by rw [kindOf_send]; rfl)⟩
theorem duties_recv : (rd (F := F) m).duties (recvCell c k) 0 = {()} := by dsimp only [rd]; exact if_pos ⟨rfl, rfl, .inr (by rw [kindOf_recv]; rfl)⟩
theorem duties_later (g : GSem nD τ sig) : ∀ r, 1 ≤ r → (rd (F := F) m).duties g r = ∅ :=
  fun r hr => by dsimp only [rd]; exact if_neg fun h => by omega

theorem amount_bar : (rd (F := F) m).amount (barCell c) 0 u = 1 := rfl
theorem amount_send : (rd (F := F) m).amount (sendCell c k) 0 u = amt k := by dsimp only [rd]; rw [kindOf_send]
theorem amount_recv : (rd (F := F) m).amount (recvCell c k) 0 u = amt k := by dsimp only [rd]; rw [kindOf_recv]

theorem payload_bar : (rd (F := F) m).payload (barCell c) 0 u = barPay c := rfl
theorem payload_send : (rd (F := F) m).payload (sendCell c k) 0 u = sendPay m c k := by dsimp only [rd]; rw [kindOf_send]
theorem payload_recv : (rd (F := F) m).payload (recvCell c k) 0 u = recvPay m c k := by dsimp only [rd]; rw [kindOf_recv]

theorem expect_bar : (rd (F := F) m).expect (barCell c) 0 = 1 := by
  unfold Schedule.expect Schedule.amountOf; rw [duties_bar, Finset.sum_singleton, amount_bar]
theorem expect_send : (rd (F := F) m).expect (sendCell c k) 0 = amt k := by
  unfold Schedule.expect Schedule.amountOf; rw [duties_send, Finset.sum_singleton, amount_send]
theorem expect_recv : (rd (F := F) m).expect (recvCell c k) 0 = amt k := by
  unfold Schedule.expect Schedule.amountOf; rw [duties_recv, Finset.sum_singleton, amount_recv]

theorem rest_bar : bigSep ((rd (F := F) m).duties (barCell c) 0 \ ∅) (fun u => (rd (F := F) m).payload (barCell c) 0 u) = barPay c := by
  rw [Finset.sdiff_empty, duties_bar, bigSep_singleton, payload_bar]
theorem rest_send : bigSep ((rd (F := F) m).duties (sendCell c k) 0 \ ∅) (fun u => (rd (F := F) m).payload (sendCell c k) 0 u) = sP c k (sV m c) := by
  rw [Finset.sdiff_empty, duties_send, bigSep_singleton, payload_send]; rfl
theorem rest_recv : bigSep ((rd (F := F) m).duties (recvCell c k) 0 \ ∅) (fun u => (rd (F := F) m).payload (recvCell c k) 0 u) = rP c k (rV m c) := by
  rw [Finset.sdiff_empty, duties_recv, bigSep_singleton, payload_recv]; rfl

end Tables

/-! ## What is owed, and the order of the waits -/

/-- What device `c` owes from its `n`-th piece on. -/
def owed (c : Dev nD) (n : ℕ) : CellTallies nD τ sig Unit :=
  ∑ k ∈ Finset.univ.filter (fun k : Fin 11 => n ≤ k.val), tallyAt (recvCell (pr c) k) () (amt k)

theorem owed_succ (c : Dev nD) (k : Fin 11) : owed c k.val = owed c (k.val + 1) + tallyAt (recvCell (pr c) k) () (amt k) := by
  unfold owed
  rw [show (Finset.univ.filter fun j : Fin 11 => k.val ≤ j.val) = insert k (Finset.univ.filter fun j : Fin 11 => k.val + 1 ≤ j.val) from by
      ext j; simp only [Finset.mem_filter, Finset.mem_univ, true_and, Finset.mem_insert, Fin.ext_iff]; omega,
    Finset.sum_insert (by simp), add_comm]
theorem owed_done (c : Dev nD) : owed c 11 = 0 := by
  unfold owed
  rw [show (Finset.univ.filter fun j : Fin 11 => 11 ≤ j.val) = ∅ from by
    ext j; have := j.isLt; simp]
  exact Finset.sum_empty

/-- What it owes at launch: its peer's barrier unit and its peer's eleven receive credits. -/
def O₀ (c : Dev nD) : CellTallies nD τ sig Unit := owed c 0 + tallyAt (barCell (pr c)) () 1

def L (g : GSem nD τ sig) : Finset Unit := if g.1.2 = .tc then {()} else ∅
/-- Barrier cells at 1, receive cells at 2, the rest at 0. -/
def lv (g : GSem nD τ sig) (_ : Unit) : ℕ :=
  if g.2 = .reg barrier0 then 1 else match kindOf g.2 with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 11) (u : Unit) : lv (recvCell c k) u = 2 := by
  unfold lv; rw [if_neg (fun h => by cases h), kindOf_recv]
theorem lv_bar (c : Dev nD) (u : Unit) : lv (barCell c) u = 1 := if_pos rfl

theorem owed_pos {c : Dev nD} {n : ℕ} {g : GSem nD τ sig} {u : Unit} (h : 0 < owed c n g u) : ∃ k : Fin 11, g = recvCell (pr c) k := by
  unfold owed at h
  rw [Finset.sum_apply, Finsupp.finsetSum_apply] at h
  by_contra hne
  refine absurd h (Nat.not_lt.mpr (Nat.le_of_eq (Finset.sum_eq_zero fun k _ => ?_)))
  rw [tallyAt_apply, if_neg (fun e => hne ⟨k, e.1⟩)]

/-- A wait below the receive cells is allowed while only receive credits are owed. -/
theorem mayWait_owed (c : Dev nD) (sm : SemLoc sig) (hsm : ∀ u, lv ((c : Thread nD τ), sm) u ≤ 1) (n : ℕ) :
    (levAts L lv : sProp 𝕄) ⊢ MayWait (c : Thread nD τ) sm () (owed c n) :=
  MayOwe.of_cut (L := L) (lev := lv) 1 (fun p hp => by rw [Finset.mem_singleton.mp hp, L_tc]; exact Finset.mem_singleton_self _)
    (fun g u hg => by obtain ⟨k, rfl⟩ := owed_pos hg; rw [L_tc]; exact Finset.mem_singleton_self _)
    (fun p hp => by rw [Finset.mem_singleton.mp hp]; exact hsm _)
    (fun g u hg => by obtain ⟨k, rfl⟩ := owed_pos hg; rw [lv_recv]; decide)

end Cert.KernelIdeal.Pf

end
-- ==== Proof.Ideal.Steps.lean ====
/-
  The steps of the protocol that the body takes, each stated once for any piece: sending piece `k`, and what a device holds
  of a piece until it waits for it.

  A wait on one of the protocol's cells is stated as a `Flight`: the right to lower the semaphore, get its payload and
  have its counter back at zero. That is the form in which the library states what a device holds of a local copy it has
  started, so that the waits of the protocol and those of local copies are run alike.
-/
module

public import proofs.«01_k».proof.Proof.Ideal.Common

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- An update may follow an atomic step. -/
theorem atomically_then {Es : Set ℕ} {w : sWPT 𝕄 PUnit} {Q : PUnit → sProp 𝕄} :
    atomically frame Es w (fun x => iprop(|={Es}=> Q x)) ⊢ atomically frame Es w Q :=
  (fupd_intro (Fr := frame) (E := Es)).trans (atomically_fupd (Fr := frame) (E₁ := Es) (E₂ := Es) w Q)

/-- What the owner of a cell of the protocol holds of it until its one wait: the wait hands out the payload of the cell's
    one round, closes the cell, and gives its counter back at zero. -/
theorem cell_flight (κ : ℕ) (c : Dev nD) (sm : SemLoc sig) (N : ℕ) (D : sProp 𝕄)
    (hN : (rd (F := F) m).expect ((c : Thread nD τ), sm) 0 = N)
    (hD : bigSep ((rd (F := F) m).duties ((c : Thread nD τ), sm) 0 \ ∅) (fun u => (rd (F := F) m).payload ((c : Thread nD τ), sm) 0 u) = D) :
    iprop(cellInv ER (rd (F := F) m) κ ((c : Thread nD τ), sm) ∗ atPos ER ((c : Thread nD τ), sm) 0 ∅ 0 ∗ cred (tallyAt ((c : Thread nD τ), sm) () N))
      ⊢ (Transfers.Flight countersEmb (c : Thread nD τ) sm () N iprop(D ∗ emp) : sProp 𝕄) := by
  unfold Transfers.Flight
  iintro ⟨#HI, Hat, Hc⟩
  isplitl [Hat]
  · iexists iprop(cellInv ER (rd (F := F) m) κ ((c : Thread nD τ), sm) ∗ atPos ER ((c : Thread nD τ), sm) 0 ∅ 0)
    isplitl [Hat]
    · isplitr; · iexact HI
      iexact Hat
    isplit
    · ipureintro
      intro K
      refine BIBase.Entails.trans ?_ atomically_then
      iintro ⟨⟨#HI, Hat⟩, HK⟩
      iapply (open_wait ER (rd (F := F) m) N (Set.mem_univ κ) (X := atPos ER ((c : Thread nD τ), sm) 0 ∅ 0)
        (Y := iprop(atPos ER ((c : Thread nD τ), sm) (0 + 1) ∅ 0 ∗ D))
        (closed_atPos_false ER (rd m)) (dormant_atPos_false ER (rd m))
        (fun v hl => by
          iintro ⟨Hst, Hat⟩
          imod (roundState_wait_rest ER (rd m) ((Nat.zero_add N).trans hN.symm) hl) $$ [Hst Hat] with ⟨Hst, Hat, -, Hpay⟩
          · isplitl [Hst] <;> iassumption
          imodintro
          isplitl [Hst]; · iexact Hst
          isplitl [Hat]; · iexact Hat
          ihave H := (Entails.of_eq hD) $$ Hpay
          iexact H))
      isplitr; · iexact HI
      isplitl [Hat]; · iexact Hat
      iintro ⟨Hat, HD⟩
      imod (Rounds.cell_close ER (rd m) (Set.mem_univ κ) id (duties_later m _)) $$ [Hat] with Hv
      · isplitr; · iexact HI
        iexact Hat
      imodintro
      iapply HK
      isplitl [Hv]; · iexact Hv
      isplitl [HD]; · iexact HD
      iempintro
    · ipureintro
      intro K
      iintro ⟨⟨#HI, Hat⟩, HK⟩
      iapply (open_wait ER (rd (F := F) m) 0 (Set.mem_univ κ) (X := atPos ER ((c : Thread nD τ), sm) 0 ∅ 0)
        (Y := atPos ER ((c : Thread nD τ), sm) 0 ∅ 0)
        (closed_atPos_false ER (rd m)) (dormant_atPos_false ER (rd m))
        (fun v hl => by
          iintro H
          imodintro
          iexact H))
      isplitr; · iexact HI
      isplitl [Hat]; · iexact Hat
      iintro Hat
      iapply HK
      isplitr; · iexact HI
      iexact Hat
  · iexact Hc

/-- What device `c` holds of piece `k` it has sent, and of piece `k` it is to receive, until it waits. -/
abbrev sFl (c : Dev nD) (k : Fin 11) : sProp 𝕄 :=
  Transfers.Flight countersEmb (c : Thread nD τ) (.dma (sendS k)) () (amt k) iprop(sP c k (sV m c) ∗ emp)
abbrev rFl (c : Dev nD) (k : Fin 11) : sProp 𝕄 :=
  Transfers.Flight countersEmb (c : Thread nD τ) (.dma (recvS k)) () (amt k) iprop(rP c k (rV m c) ∗ emp)

theorem recv_flight (κ : ℕ) (c : Dev nD) (k : Fin 11) :
    iprop(cellInv ER (rd (F := F) m) κ (recvCell c k) ∗ atPos ER (recvCell c k) 0 ∅ 0 ∗ cred (tallyAt (recvCell c k) () (amt k))) ⊢ rFl m c k :=
  cell_flight m κ c _ _ _ (expect_recv m c k) (rest_recv m c k)
theorem send_flight (κ : ℕ) (c : Dev nD) (k : Fin 11) :
    iprop(cellInv ER (rd (F := F) m) κ (sendCell c k) ∗ atPos ER (sendCell c k) 0 ∅ 0 ∗ cred (tallyAt (sendCell c k) () (amt k))) ⊢ sFl m c k :=
  cell_flight m κ c _ _ _ (expect_send m c k) (rest_send m c k)

/-! ## The records every device reads -/

/-- One summand of a finite family. -/
theorem bigSep_out {I : Type} [DecidableEq I] [Fintype I] (Φ : I → sProp 𝕄) (i : I) : bigSep Finset.univ Φ ⊢ Φ i :=
  bigSep_elim (Finset.mem_univ i)

/-- The invariants of all cells, at the names `K` the launch allocated them at. Persistent. -/
def records (K : GSem nD τ sig → ℕ) : sProp 𝕄 :=
  iprop((bigSep Finset.univ fun c : Dev nD => cellInv ER (rd (F := F) m) (K (barCell c)) (barCell c))
    ∗ (bigSep Finset.univ fun p : Dev nD × Fin 11 => cellInv ER (rd (F := F) m) (K (sendCell p.1 p.2)) (sendCell p.1 p.2))
    ∗ (bigSep Finset.univ fun p : Dev nD × Fin 11 => cellInv ER (rd (F := F) m) (K (recvCell p.1 p.2)) (recvCell p.1 p.2)))

instance records_persistent (K : GSem nD τ sig → ℕ) : BI.Persistent (records (F := F) m K) := by unfold records; infer_instance

theorem records_bar (K : GSem nD τ sig → ℕ) (c : Dev nD) : records (F := F) m K ⊢ cellInv ER (rd (F := F) m) (K (barCell c)) (barCell c) := by
  unfold records
  iintro ⟨#H, -, -⟩
  iapply (bigSep_out (Φ := fun c : Dev nD => cellInv ER (rd (F := F) m) (K (barCell c)) (barCell c)) c) $$ H
theorem records_send (K : GSem nD τ sig → ℕ) (c : Dev nD) (k : Fin 11) : records (F := F) m K ⊢ cellInv ER (rd (F := F) m) (K (sendCell c k)) (sendCell c k) := by
  unfold records
  iintro ⟨-, #H, -⟩
  iapply (bigSep_out (Φ := fun p : Dev nD × Fin 11 => cellInv ER (rd (F := F) m) (K (sendCell p.1 p.2)) (sendCell p.1 p.2)) (c, k)) $$ H
theorem records_recv (K : GSem nD τ sig → ℕ) (c : Dev nD) (k : Fin 11) : records (F := F) m K ⊢ cellInv ER (rd (F := F) m) (K (recvCell c k)) (recvCell c k) := by
  unfold records
  iintro ⟨-, -, #H⟩
  iapply (bigSep_out (Φ := fun p : Dev nD × Fin 11 => cellInv ER (rd (F := F) m) (K (recvCell p.1 p.2)) (recvCell p.1 p.2)) (c, k)) $$ H

/-! ## Sending a piece -/

/-- What sending piece `k` takes beside the piece itself: the peer's piece, the two duties it pays, the position on the
    device's own send cell. -/
def toSend (c : Dev nD) (k : Fin 11) : sProp 𝕄 :=
  iprop((∃ f, rP (pr c) k f) ∗ reached ER (recvCell (pr c) k) 0 ∗ dutyTok ER (recvCell (pr c) k) 0 ()
    ∗ dutyTok ER (sendCell c k) 0 () ∗ reached ER (sendCell c k) 0 ∗ atPos ER (sendCell c k) 0 ∅ 0)

theorem pset_col (j : Fin 4) : (colR j).set = pset ⟨j.val, by have := j.isLt; omega⟩ := by
  unfold pset; rw [dif_pos j.isLt]
theorem pset_row (s : Fin 8) (hs : 1 ≤ s.val) : (rowR s).set = pset ⟨s.val + 3, by have := s.isLt; omega⟩ := by
  unfold pset; rw [dif_neg (show ¬ s.val + 3 < 4 by omega)]
  congr 1

section Send
variable (R : Rect S2x512x2048) (hst : ∀ a, R.stride a = 1) {s' : Shape} (sq : R.shape.Squeezes s')

/-- A copy between the same parts of the send and receive buffers writes there what the send buffer holds there. -/
theorem copied_part (f : Vec F S2x512x2048 .bf16) (g : Vec F S2x512x2048 .bf16) (i : S2x512x2048.Idx)
    (hi : i ∈ ((rM.slice R hst).squeeze s' sq).view.set) :
    (((rM.slice R hst).squeeze s' sq).view.write (Elt F) g (((sM.slice R hst).squeeze s' sq).view.read (Elt F) f) Finset.univ : Vec F S2x512x2048 .bf16) i = f i := by
  obtain ⟨x, -, rfl⟩ := Finset.mem_map.mp hi
  rw [View.write_emb_of_mem _ _ (Finset.mem_univ x)]
  rfl

variable (c : Dev nD) (k : Fin 11)

/-- The piece through the slice the program names is the piece. -/
theorem sP_view (hR : R.set = pset k) (f : Vec F S2x512x2048 .bf16) :
    ((((sM.slice R hst).squeeze s' sq).view.loc (c : Thread nD τ) ↦[((sM.slice R hst).squeeze s' sq).view.set]{fullShare} f : sProp 𝕄)) = sP c k f := by
  rw [View.set_reshape, View.set_slice_whole, hR]
theorem rP_view (hR : R.set = pset k) (f : Vec F S2x512x2048 .bf16) :
    ((((rM.slice R hst).squeeze s' sq).view.loc (c : Thread nD τ) ↦[((rM.slice R hst).squeeze s' sq).view.set]{fullShare} f : sProp 𝕄)) = rP c k f := by
  rw [View.set_reshape, View.set_slice_whole, hR]

/-- SENDING PIECE `k`: the peer's piece comes to hold what the device computed (paid to the peer's receive cell, a unit of
    the debt), the device's own piece goes to its own send cell, and it is left with the right to wait for it. -/
theorem send_step (K : GSem nD τ sig → ℕ) (hR : R.set = pset k) (d : Dev nD) (hd : d = pr c) (sS sR : DmaSem sig) (hS : sS = sendS k) (hV : sR = recvS k)
    (hN : ((rM.slice R hst).squeeze s' sq).view.dmaCredit = amt k) (W : Waits sig Unit)
    {hsc : ((rM.slice R hst).squeeze s' sq).view.ref.isScScratch = false}
    {hsrc : ((sM.slice R hst).squeeze s' sq).view.WordExact} {hdst : ((rM.slice R hst).squeeze s' sq).view.WordExact}
    {hsem : DmaTarget.Typed .vmem (.dma sR) (.remote (d : Thread nD τ) ((rM.slice R hst).squeeze s' sq) (.dma sS) hsc)}
    {α : Type} {kk : PUnit → Prog (TpuEff nD τ sig (Elt F) Λ₀ .tc) α} {Q : α → sProp 𝕄} :
    iprop(records m K ∗ toSend c k ∗ sP c k (sV m c) ∗ owes (c : Thread nD τ) (owed c k.val) W)
      ⊢ iprop(((sFl m c k ∗ owes (c : Thread nD τ) (owed c (k.val + 1)) W) -∗ wp frame (wpE (defs₀ (F := F)) Variants.none (c : Thread nD τ) none) Set.univ (kk ⟨⟩) Q)
        -∗ wp frame (wpE (defs₀ (F := F)) Variants.none (c : Thread nD τ) none) Set.univ
            (.op (.enqueueDma ((sM.slice R hst).squeeze s' sq) (.remote (d : Thread nD τ) ((rM.slice R hst).squeeze s' sq) (.dma sS) hsc) (.dma sR) hsrc hdst hsem) kk) Q) := by
  subst hd hS hV
  unfold toSend
  iintro ⟨#HK, ⟨⟨%fd, Hd⟩, #Hr2, Ht2, Ht1, #Hr1, Hat⟩, Hs, HO⟩ Hk
  ihave #HIs := (records_send m K c k) $$ HK
  ihave #HIr := (records_recv m K (pr c) k) $$ HK
  iapply (Rounds.wp_send_pointsTo Variants.none ER (rd m) (c : Thread nD τ) none (c' := (pr c : Thread nD τ))
      (src := (sM.slice R hst).squeeze s' sq) (dst := (rM.slice R hst).squeeze s' sq)
      (sS := .dma (sendS k)) (sem := .dma (recvS k)) (q := fullShare) (fs := sV m c) (κ₁ := K (sendCell c k)) (κ₂ := K (recvCell (pr c) k))
      (r₁ := 0) (r₂ := 0) (d₁ := ()) (d₂ := ()) (fd := fd)
      (by rw [duties_send]; exact Finset.mem_singleton_self _) (by rw [duties_recv]; exact Finset.mem_singleton_self _)
      () () (amt k) hN (amount_send m c k ()) (amount_recv m (pr c) k ()) (owed c (k.val + 1)) (owed_succ c k) (W := W)
      (by rw [payload_send, sP_view R hst sq c k hR]; exact BI.Entails.refl _)
      (by
        rw [payload_recv]; unfold recvPay rV; rw [pr_pr, ← rP_view R hst sq (pr c) k hR]
        exact Entails.of_eq (pointsTo_congr fun i hi => copied_part R hst sq (sV m c) fd i hi))) $$ [Hs Hd HO Ht1 Ht2]
  · isplitr; · iexact HIs
    isplitr; · iexact HIr
    isplitl [Hs]; · rw [sP_view R hst sq c k hR]; iexact Hs
    isplitl [Hd]; · rw [rP_view R hst sq (pr c) k hR]; iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc Hat]
  · iapply (send_flight m (K (sendCell c k)) c k)
    isplitr; · iexact HIs
    isplitl [Hat]; · iexact Hat
    iexact Hc
  iexact HO

end Send

end Cert.KernelIdeal.Pf

end
-- ==== Proof.Ideal.Pieces.lean ====
/-
  The buffers cut the way the kernel's steps touch them: sixteen slots of staged rows, four column pieces of `Wo`'s half
  and of its bf16 copy, and the blocks of rows of the send buffer, the receive buffer and the result window. For every
  store of the kernel: what the block holds afterwards, as a restriction of the array the whole buffer comes to hold.
-/
module

public import proofs.«01_k».proof.Proof.Ideal.Steps
public import Idealize.ShloMosaic.Lib.ViewIndex
public import Idealize.ShloMosaic.Lib.ValueLayout

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The blocks -/

abbrev oS (s : Fin 16) := oM.slice (oR s) (fun _ => rfl)
abbrev wS (j : Fin 4) := wM.slice (wR j) (fun _ => rfl)
abbrev aS (j : Fin 4) := aM.slice (wR j) (fun _ => rfl)
abbrev bS (j : Fin 4) := bM.slice (wR j) (fun _ => rfl)
abbrev sC (j : Fin 4) := sM.slice (colR j) (fun _ => rfl)
abbrev sR (s : Fin 8) := sM.slice (rowR s) (fun _ => rfl)
abbrev rC (j : Fin 4) := rM.slice (colR j) (fun _ => rfl)
abbrev rR (s : Fin 8) := rM.slice (rowR s) (fun _ => rfl)
abbrev gR (s : Fin 8) := gM.slice (rowR s) (fun _ => rfl)

abbrev oP (c : Dev nD) (s : Fin 16) (f : Vec F S16x128x1024 .f32) : sProp 𝕄 := (oS s).view.loc (c : Thread nD τ) ↦[(oS s).view.set]{fullShare} f
abbrev wP (c : Dev nD) (j : Fin 4) (f : Vec F S1024x2048 .f32) : sProp 𝕄 := (wS j).view.loc (c : Thread nD τ) ↦[(wS j).view.set]{fullShare} f
abbrev aP (c : Dev nD) (j : Fin 4) (f : Vec F S1024x2048 .f32) : sProp 𝕄 := (aS j).view.loc (c : Thread nD τ) ↦[(aS j).view.set]{fullShare} f
abbrev bC (c : Dev nD) (j : Fin 4) (f : Vec F S1024x2048 .bf16) : sProp 𝕄 := (bS j).view.loc (c : Thread nD τ) ↦[(bS j).view.set]{fullShare} f
abbrev sCol (c : Dev nD) (j : Fin 4) (f : Vec F S2x512x2048 .bf16) : sProp 𝕄 := (sC j).view.loc (c : Thread nD τ) ↦[(sC j).view.set]{fullShare} f
abbrev sRow (c : Dev nD) (s : Fin 8) (f : Vec F S2x512x2048 .bf16) : sProp 𝕄 := (sR s).view.loc (c : Thread nD τ) ↦[(sR s).view.set]{fullShare} f
abbrev rRow (c : Dev nD) (s : Fin 8) (f : Vec F S2x512x2048 .bf16) : sProp 𝕄 := (rR s).view.loc (c : Thread nD τ) ↦[(rR s).view.set]{fullShare} f
abbrev gRow (c : Dev nD) (s : Fin 8) (f : Vec F S2x512x2048 .f32) : sProp 𝕄 := (gR s).view.loc (c : Thread nD τ) ↦[(gR s).view.set]{fullShare} f
/-- The bf16 copy of `Wo`'s half, whole and filled. -/
abbrev bP (c : Dev nD) : sProp 𝕄 := (View.loc (c : Thread nD τ) bM.view) ↦{fullShare} wV m c
/-- Where the rows staged in slot `s` lie in the device's heads of `O`. -/
abbrev xoff (c : Dev nD) (s : Fin 16) : Fin 3 → ℕ :=
  ![s.val / 4 % 2, (if s.val < 8 then half (pr c) else half c) + 128 * (s.val % 4), 0]

theorem xoff_inb (c : Dev nD) (s : Fin 16) : ∀ a, xoff c s a + S1x128x1024.size a ≤ S2x1024x1024.size a := by
  intro a
  have := s.isLt
  have := Nat.mod_lt c.val (show 0 < 2 by decide)
  have := Nat.mod_lt (pr c).val (show 0 < 2 by decide)
  fin_cases a <;> simp [half] <;> (try split) <;> omega

abbrev xR (c : Dev nD) (s : Fin 16) : Rect S2x1024x1024 := Rect.unit (s := S2x1024x1024) (xoff c s) S1x128x1024.size (xoff_inb c s)

/-- A read share of those rows, one share per staging copy. -/
abbrev xTok (c : Dev nD) (s : Fin 16) : sProp 𝕄 := ((c : Thread nD τ).loc main_v1) ↦[(xR c s).set]{Transfers.shareTok fullShare 16 s} xV m c

abbrev oSem (s : Fin 16) : DmaSem sig := ⟨1 + s.val, by have := s.isLt; show _ < 45; omega⟩
abbrev wSem (j : Fin 4) : DmaSem sig := ⟨17 + j.val, by have := j.isLt; show _ < 45; omega⟩
abbrev oSemZ (c : Dev nD) (s : Fin 16) : sProp 𝕄 := semVal ((c : Thread nD τ), .dma (oSem s)) 0
abbrev wSemZ (c : Dev nD) (j : Fin 4) : sProp 𝕄 := semVal ((c : Thread nD τ), .dma (wSem j)) 0

/-- The staging copies under way. -/
abbrev oFl (c : Dev nD) (s : Fin 16) : sProp 𝕄 :=
  Transfers.Flight countersEmb (c : Thread nD τ) (.dma (oSem s)) () 16384 iprop(oP c s (oV m c) ∗ xTok m c s)
abbrev wFl (c : Dev nD) (j : Fin 4) : sProp 𝕄 :=
  Transfers.Flight countersEmb (c : Thread nD τ) (.dma (wSem j)) () 65536 iprop(wP c j (aV m c) ∗ aP c j (aV m c))

theorem mayWait_low (c : Dev nD) (s : DmaSem sig) (n : ℕ) (h : s.val ≤ 20) :
    (levAts L lv : sProp 𝕄) ⊢ MayWait (c : Thread nD τ) (.dma s) () (owed c n) :=
  mayWait_owed c _ (by
    intro u; unfold lv; rw [if_neg (fun h => by cases h)]
    have : kindOf (.dma s) = none := by revert s; decide
    rw [this]; exact Nat.zero_le _) n

/-! ## A block after a store -/

/-- A store over a block of what the block reads of `g` leaves the block of `g`. -/
theorem stored {κ : Kind} {sp : Space} {s : Shape} {e : EltTy} (v : View sig κ sp s e) (R : Rect s) (f g : v.ty.Contents (Elt F))
    (i : v.ty.shape.Idx) (hi : i ∈ (v.slice R).set) :
    (v.slice R).write (Elt F) f (v.readAt (Elt F) R.toLoadRect g) Finset.univ i = g i := by
  obtain ⟨x, -, rfl⟩ := Finset.mem_map.mp hi
  rw [View.write_emb_of_mem _ _ (Finset.mem_univ x), View.readAt_rect, View.read_apply, cast_cast, cast_eq]

/-! ## What the loads read -/

theorem ext2 {d : Fin 2 → ℕ} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

theorem read_slot (c : Dev nD) (s : Fin 16) : View.readAt (Elt F) oM.view (oR s).toLoadRect (oV m c) = oB m c s := by
  funext i
  have h0 : (i 0).val < 1 := (i 0).isLt
  show oV m c ((oR s).toLoadRect.idx i) = oV m c _
  congr 1
  refine Shape.idx3_ext ?_ ?_ ?_
  · show s.val + 1 * (i 0).val = s.val; omega
  · show 0 + 1 * (i 1).val = (i 1).val; omega
  · show 0 + 1 * (i 2).val = (i 2).val; omega

theorem read_b (c : Dev nD) :
    View.readAt (Elt F) bM.view (Rect.unit ![0, 0] S1024x2048.size inb_S1024x2048_S1024x2048_0_0).toLoadRect (wV m c) = wV m c := by
  funext i
  show wV m c ((Rect.unit (s := S1024x2048) ![0, 0] S1024x2048.size inb_S1024x2048_S1024x2048_0_0).toLoadRect.idx i) = wV m c _
  congr 1
  refine ext2 ?_ ?_
  · show 0 + 1 * (i 0).val = (i 0).val; omega
  · show 0 + 1 * (i 1).val = (i 1).val; omega

theorem read_bcol (c : Dev nD) (j : Fin 4) : View.readAt (Elt F) bM.view (wR j).toLoadRect (wV m c) = wB m c j := by
  funext i
  show wV m c ((wR j).toLoadRect.idx i) = wV m c _
  congr 1
  refine ext2 ?_ ?_
  · show 0 + 1 * (i 0).val = (i 0).val; omega
  · show 512 * j.val + 1 * (i 1).val = 512 * j.val + (i 1).val; omega

/-- What is stored into a column piece of the bf16 copy. -/
theorem store_bcol (c : Dev nD) (j : Fin 4) :
    k0_pay3 (View.readAt (Elt F) wM.view (wR j).toLoadRect (aV m c)) = View.readAt (Elt F) bM.view (wR j).toLoadRect (wV m c) := by
  unfold k0_pay3
  exact (shapeCast_self _ _).trans rfl

section Rows
variable (c : Dev nD) (s : Fin 8)

theorem row_idx0 (i : S1x128x2048.Idx) : ((rowR s).toLoadRect.idx i 0).val = s.val / 4 := by
  have h0 : (i 0).val < 1 := (i 0).isLt
  show s.val / 4 + 1 * (i 0).val = _; omega
theorem row_idx1 (i : S1x128x2048.Idx) : ((rowR s).toLoadRect.idx i 1).val = 128 * (s.val % 4) + (i 1).val := by
  show 128 * (s.val % 4) + 1 * (i 1).val = _; omega
theorem row_idx2 (i : S1x128x2048.Idx) : ((rowR s).toLoadRect.idx i 2).val = (i 2).val := by
  show 0 + 1 * (i 2).val = _; omega

theorem read_srow (hs : 1 ≤ s.val) : View.readAt (Elt F) sM.view (rowR s).toLoadRect (sV m c) = rowV m c ⟨s.val, by have := s.isLt; omega⟩ := by
  funext i
  have h0 : (i 0).val < 1 := (i 0).isLt
  have h1 : (i 1).val < 128 := (i 1).isLt
  have hs' := s.isLt
  show sV m c ((rowR s).toLoadRect.idx i) = _
  have e : 4 * ((rowR s).toLoadRect.idx i 0).val + ((rowR s).toLoadRect.idx i 1).val / 128 = s.val := by
    rw [row_idx0, row_idx1]; omega
  unfold sV
  rw [if_neg (by rw [e]; omega)]
  refine congrArg₂ (fun a b => rowV m c a b) (Fin.ext e) (Shape.idx3_ext ?_ ?_ ?_)
  · show 0 = (i 0).val; omega
  · show ((rowR s).toLoadRect.idx i 1).val % 128 = _; rw [row_idx1]; omega
  · exact row_idx2 s i

theorem read_grow : View.readAt (Elt F) gM.view (rowR s).toLoadRect (gV m c) = gB m c s := by
  funext i
  have h0 : (i 0).val < 1 := (i 0).isLt
  have h1 : (i 1).val < 128 := (i 1).isLt
  have hs' := s.isLt
  show gV m c ((rowR s).toLoadRect.idx i) = _
  have e : 4 * ((rowR s).toLoadRect.idx i 0).val + ((rowR s).toLoadRect.idx i 1).val / 128 = s.val := by
    rw [row_idx0, row_idx1]; omega
  unfold gV
  refine congrArg₂ (fun a b => gB m c a b) (Fin.ext e) (Shape.idx3_ext ?_ ?_ ?_)
  · show 0 = (i 0).val; omega
  · show ((rowR s).toLoadRect.idx i 1).val % 128 = _; rw [row_idx1]; omega
  · exact row_idx2 s i

/-- What is stored into a block of the result window at the end. -/
theorem store_out :
    k0_pay28 (View.readAt (Elt F) gM.view (rowR s).toLoadRect (gV m c)) (View.readAt (Elt F) rM.view (rowR s).toLoadRect (rV m c))
      = View.readAt (Elt F) gM.view (rowR s).toLoadRect (outV m c) := by
  funext i
  obtain ⟨a, b, d, rfl⟩ : ∃ a b d, i = ix3 a b d := ⟨_, _, _, eq_ix3 i⟩
  unfold k0_pay28
  refine (ValueIdx.shapeCast_ab_1ab_apply _ _ a b d).trans ?_
  have ha : a = 0 := Fin.ext (by omega)
  subst ha
  exact congrArg₂ (fun x y => FloatOps.addf x (FloatOps.extf .f32 bitsLt_bf16_f32 y))
    (ValueIdx.shapeCast_1ab_ab_apply (View.readAt (Elt F) gM.view (rowR s).toLoadRect (gV m c)) shapeCasts_S1x128x2048_S128x2048 b d)
    (ValueIdx.shapeCast_1ab_ab_apply (View.readAt (Elt F) rM.view (rowR s).toLoadRect (rV m c)) shapeCasts_S1x128x2048_S128x2048 b d)

end Rows

theorem read_scol (c : Dev nD) (j : Fin 4) : View.readAt (Elt F) sM.view (colR j).toLoadRect (sV m c) = colV m c j := by
  funext i
  have h0 : (i 0).val < 1 := (i 0).isLt
  have h1 : (i 1).val < 128 := (i 1).isLt
  have h2 : (i 2).val < 512 := (i 2).isLt
  have hj := j.isLt
  show sV m c ((colR j).toLoadRect.idx i) = _
  have e0 : ((colR j).toLoadRect.idx i 0).val = 0 := by show 0 + 1 * (i 0).val = _; omega
  have e1 : ((colR j).toLoadRect.idx i 1).val = (i 1).val := by show 0 + 1 * (i 1).val = _; omega
  have e2 : ((colR j).toLoadRect.idx i 2).val = 512 * j.val + (i 2).val := by show 512 * j.val + 1 * (i 2).val = _; omega
  unfold sV
  rw [if_pos (by rw [e0, e1]; omega)]
  refine congrArg₂ (fun a b => colV m c a b) (Fin.ext ?_) (Shape.idx3_ext ?_ ?_ ?_)
  · show ((colR j).toLoadRect.idx i 2).val / 512 = j.val; rw [e2]; omega
  · show 0 = (i 0).val; omega
  · show ((colR j).toLoadRect.idx i 1).val % 128 = _; rw [e1]; omega
  · show ((colR j).toLoadRect.idx i 2).val % 512 = _; rw [e2]; omega

/-! ## The pieces after the kernel's stores -/

/-- A column piece of the bf16 copy. -/
theorem bcol_stored (c : Dev nD) (j : Fin 4) (f : Vec F S1024x2048 .bf16) :
    bC c j ((bM.access (wR j)).write (Elt F) f (k0_pay3 (View.readAt (Elt F) wM.view (wR j).toLoadRect (aV m c))) Finset.univ) ⊢ (bC c j (wV m c) : sProp 𝕄) := by
  rw [store_bcol]
  exact Entails.of_eq (pointsTo_congr fun i hi => stored bM.view (wR j) f (wV m c) i hi)

/-- A column piece of the send buffer. -/
theorem scol_stored (c : Dev nD) (j : Fin 4) (f : Vec F S2x512x2048 .bf16) :
    sCol c j ((sM.access (colR j)).write (Elt F) f (colV m c j) Finset.univ) ⊢ (sP c ⟨j.val, by have := j.isLt; omega⟩ (sV m c) : sProp 𝕄) := by
  rw [← read_scol, sP, ← pset_col]
  refine BIBase.Entails.trans (Entails.of_eq (pointsTo_congr fun i hi => stored sM.view (colR j) f (sV m c) i hi)) ?_
  rw [View.set_slice_whole]

/-- A block of rows of the send buffer. -/
theorem srow_stored (c : Dev nD) (s : Fin 8) (hs : 1 ≤ s.val) (f : Vec F S2x512x2048 .bf16) :
    sRow c s ((sM.access (rowR s)).write (Elt F) f
        (k0_pay12 (View.readAt (Elt F) oM.view (oR ⟨s.val, by have := s.isLt; omega⟩).toLoadRect (oV m c))
          (View.readAt (Elt F) bM.view (Rect.unit ![0, 0] S1024x2048.size inb_S1024x2048_S1024x2048_0_0).toLoadRect (wV m c))) Finset.univ)
      ⊢ (sP c ⟨s.val + 3, by have := s.isLt; omega⟩ (sV m c) : sProp 𝕄) := by
  rw [read_slot, read_b]
  refine BIBase.Entails.trans ?_ (Entails.of_eq (congrArg (fun I => ((c : Thread nD τ).loc cc0_scratch3) ↦[I]{fullShare} sV m c) (pset_row s hs)))
  have h := (read_srow m c s hs).symm
  unfold rowV at h
  rw [h]
  refine BIBase.Entails.trans (Entails.of_eq (pointsTo_congr fun i hi => stored sM.view (rowR s) f (sV m c) i hi)) ?_
  rw [View.set_slice_whole]

/-- A block of rows of the result window, first with the device's own product, then with the received one added. -/
theorem grow_stored (c : Dev nD) (s : Fin 8) (f : Vec F S2x512x2048 .f32) :
    gRow c s ((gM.access (rowR s)).write (Elt F) f
        (k0_pay19 (View.readAt (Elt F) oM.view (oR ⟨8 + s.val, by have := s.isLt; omega⟩).toLoadRect (oV m c))
          (View.readAt (Elt F) bM.view (Rect.unit ![0, 0] S1024x2048.size inb_S1024x2048_S1024x2048_0_0).toLoadRect (wV m c))) Finset.univ)
      ⊢ (gRow c s (gV m c) : sProp 𝕄) := by
  rw [read_slot, read_b]
  have h := (read_grow m c s).symm
  unfold gB at h
  rw [h]
  exact Entails.of_eq (pointsTo_congr fun i hi => stored gM.view (rowR s) f (gV m c) i hi)

theorem out_stored (c : Dev nD) (s : Fin 8) :
    gRow c s ((gM.access (rowR s)).write (Elt F) (gV m c)
        (k0_pay28 (View.readAt (Elt F) gM.view (rowR s).toLoadRect (gV m c)) (View.readAt (Elt F) rM.view (rowR s).toLoadRect (rV m c))) Finset.univ)
      ⊢ (gRow c s (outV m c) : sProp 𝕄) := by
  rw [store_out]
  exact Entails.of_eq (pointsTo_congr fun i hi => stored gM.view (rowR s) (gV m c) (outV m c) i hi)

/-- A received block of rows, seen through the block. -/
theorem rrow_view (c : Dev nD) (s : Fin 8) (hs : 1 ≤ s.val) (f : Vec F S2x512x2048 .bf16) :
    (rP c ⟨s.val + 3, by have := s.isLt; omega⟩ f : sProp 𝕄) ⊢ rRow c s f := by
  refine (Entails.of_eq (congrArg (fun I => ((c : Thread nD τ).loc cc0_scratch4) ↦[I]{fullShare} f) (pset_row s hs).symm)).trans ?_
  rw [rRow, View.set_slice_whole]

/-- A part of the kernel's body at the buffers and semaphores the launch gives it. -/
abbrev onBufs {β : Type 1} (p : (arg0 : Memref sig .tc .hbm S2x1024x1024 .f32) → arg0.IsWhole → (arg1 : Memref sig .tc .hbm S1024x2048 .f32) → arg1.IsWhole →
    (arg2 : Memref sig .tc .vmem S2x512x2048 .f32) → arg2.IsWhole → (arg3 : Memref sig .tc .vmem S16x128x1024 .f32) → arg3.IsWhole →
    (arg4 : Memref sig .tc .vmem S1024x2048 .f32) → arg4.IsWhole → (arg5 : Memref sig .tc .vmem S1024x2048 .bf16) → arg5.IsWhole →
    (arg6 : Memref sig .tc .vmem S2x512x2048 .bf16) → arg6.IsWhole → (arg7 : Memref sig .tc .vmem S2x512x2048 .bf16) → arg7.IsWhole →
    DmaSems sig S16 → DmaSems sig S4 → DmaSems sig S8 → DmaSems sig S8 → DmaSems sig S4 → DmaSems sig S4 → β) : β :=
  p xM (Memref.isWhole_whole _) aM (Memref.isWhole_whole _) gM (Memref.isWhole_whole _) oM (Memref.isWhole_whole _) wM (Memref.isWhole_whole _)
    bM (Memref.isWhole_whole _) sM (Memref.isWhole_whole _) rM (Memref.isWhole_whole _) cc0_scratch5 cc0_scratch6 cc0_scratch7 cc0_scratch8 cc0_scratch9 cc0_scratch10

/-- A run of device `c`'s core inside the region. -/
abbrev runs (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- What device `c` owes from piece `n` on, whatever it has waited for. -/
abbrev owing (c : Dev nD) (n : ℕ) : sProp 𝕄 := iprop(∃ W, owes (c : Thread nD τ) (owed c n) W)

/-- What the parts from the first remote copy on may use freely. -/
abbrev Ctx (K : GSem nD τ sig → ℕ) : sProp 𝕄 := iprop(records m K ∗ levAts L lv)

/-- Sending piece `k`, whatever has been waited for so far. -/
theorem send_piece (R : Rect S2x512x2048) (hst : ∀ a, R.stride a = 1) {s' : Shape} (sq : R.shape.Squeezes s') (c : Dev nD) (k : Fin 11)
    (K : GSem nD τ sig → ℕ) (hR : R.set = pset k) (d : Dev nD) (hd : d = pr c) (sS sR : DmaSem sig) (hS : sS = sendS k) (hV : sR = recvS k)
    (hN : ((rM.slice R hst).squeeze s' sq).view.dmaCredit = amt k)
    {hsc : ((rM.slice R hst).squeeze s' sq).view.ref.isScScratch = false}
    {hsrc : ((sM.slice R hst).squeeze s' sq).view.WordExact} {hdst : ((rM.slice R hst).squeeze s' sq).view.WordExact}
    {hsem : DmaTarget.Typed .vmem (.dma sR) (.remote (d : Thread nD τ) ((rM.slice R hst).squeeze s' sq) (.dma sS) hsc)}
    {α : Type} {kk : PUnit → Prog (TpuEff nD τ sig (Elt F) Λ₀ .tc) α} {Q : α → sProp 𝕄} :
    iprop(records m K ∗ toSend c k ∗ sP c k (sV m c) ∗ owing c k.val)
      ⊢ iprop(((sFl m c k ∗ owing c (k.val + 1)) -∗ wp frame (wpE (defs₀ (F := F)) Variants.none (c : Thread nD τ) none) Set.univ (kk ⟨⟩) Q)
        -∗ wp frame (wpE (defs₀ (F := F)) Variants.none (c : Thread nD τ) none) Set.univ
            (.op (.enqueueDma ((sM.slice R hst).squeeze s' sq) (.remote (d : Thread nD τ) ((rM.slice R hst).squeeze s' sq) (.dma sS) hsc) (.dma sR) hsrc hdst hsem) kk) Q) := by
  iintro ⟨#HK, Ht, Hs, %W, HO⟩ Hk
  iapply (send_step m R hst sq c k K hR d hd sS sR hS hV hN W) $$ [Ht Hs HO]
  · isplitr; · iexact HK
    iframe
  iintro ⟨Hf, HO⟩
  iapply Hk
  iframe
  iexists W; iexact HO

end Cert.KernelIdeal.Pf

end
-- ==== Proof.Ideal.Stage.lean ====
/-
  Parts 1 to 5 of the kernel: the copies that bring `Wo`'s half, in four column pieces, and sixteen blocks of rows of the
  device's heads of `O` into the device's own memory.
-/
module

public import proofs.«01_k».proof.Proof.Ideal.Pieces

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

variable (c : Dev nD)

/-! ## Where the program says the rows lie -/

theorem off_0 (c : Dev nD) : k0_off1 c 0#32 = xoff c 0 := by revert c; decide
theorem off_4 (c : Dev nD) : k0_off2 c 0#32 = xoff c 4 := by revert c; decide
theorem off_8 (c : Dev nD) : k0_off3 c 0#32 = xoff c 8 := by revert c; decide
theorem off_12 (c : Dev nD) : k0_off4 c 0#32 = xoff c 12 := by revert c; decide
theorem off_1 (c : Dev nD) : k0_off1 c 128#32 = xoff c 1 := by revert c; decide
theorem off_5 (c : Dev nD) : k0_off2 c 128#32 = xoff c 5 := by revert c; decide
theorem off_9 (c : Dev nD) : k0_off3 c 128#32 = xoff c 9 := by revert c; decide
theorem off_13 (c : Dev nD) : k0_off4 c 128#32 = xoff c 13 := by revert c; decide
theorem off_2 (c : Dev nD) : k0_off1 c 256#32 = xoff c 2 := by revert c; decide
theorem off_6 (c : Dev nD) : k0_off2 c 256#32 = xoff c 6 := by revert c; decide
theorem off_10 (c : Dev nD) : k0_off3 c 256#32 = xoff c 10 := by revert c; decide
theorem off_14 (c : Dev nD) : k0_off4 c 256#32 = xoff c 14 := by revert c; decide
theorem off_3 (c : Dev nD) : k0_off1 c 384#32 = xoff c 3 := by revert c; decide
theorem off_7 (c : Dev nD) : k0_off2 c 384#32 = xoff c 7 := by revert c; decide
theorem off_11 (c : Dev nD) : k0_off3 c 384#32 = xoff c 11 := by revert c; decide
theorem off_15 (c : Dev nD) : k0_off4 c 384#32 = xoff c 15 := by revert c; decide

/-! ## One copy -/

/-- A slot after the copy. -/
theorem staged_row (s : Fin 16) (hst : ∀ a, (oR s).stride a = 1) (sq : (oR s).shape.Squeezes S128x1024)
    (hst' : ∀ a, (xR c s).stride a = 1) (sq' : (xR c s).shape.Squeezes S128x1024) (f : Vec F S16x128x1024 .f32)
    (i : S16x128x1024.Idx) (hi : i ∈ ((oM.slice (oR s) hst).squeeze S128x1024 sq).view.set) :
    (((oM.slice (oR s) hst).squeeze S128x1024 sq).view.write (Elt F) f
      (((xM.slice (xR c s) hst').squeeze S128x1024 sq').view.read (Elt F) (xV m c)) Finset.univ : Vec F S16x128x1024 .f32) i = oV m c i := by
  obtain ⟨x, -, rfl⟩ := Finset.mem_map.mp hi
  rw [View.write_emb_of_mem _ _ (Finset.mem_univ x)]
  have key : ∀ y : S1x128x1024.Idx, xV m c ((xR c s).toLoadRect.idx y) = oV m c ((oR s).toLoadRect.idx y) := by
    intro y
    have h0 : (y 0).val < 1 := (y 0).isLt
    have hs := s.isLt
    have e0 : ((oR s).toLoadRect.idx y 0).val = s.val := by show s.val + 1 * (y 0).val = _; omega
    have e1 : ((oR s).toLoadRect.idx y 1).val = (y 1).val := by show 0 + 1 * (y 1).val = _; omega
    have e2 : ((oR s).toLoadRect.idx y 2).val = (y 2).val := by show 0 + 1 * (y 2).val = _; omega
    unfold oV
    refine congrArg (xV m c) (Shape.idx3_ext ?_ ?_ ?_)
    · show s.val / 4 % 2 + 1 * (y 0).val = ((oR s).toLoadRect.idx y 0).val / 4 % 2
      rw [e0]; omega
    · show ((if s.val < 8 then half (pr c) else half c) + 128 * (s.val % 4)) + 1 * (y 1).val
        = (if ((oR s).toLoadRect.idx y 0).val < 8 then half (pr c) else half c) + 128 * (((oR s).toLoadRect.idx y 0).val % 4) + ((oR s).toLoadRect.idx y 1).val
      rw [e0, e1]; omega
    · show 0 + 1 * (y 2).val = ((oR s).toLoadRect.idx y 2).val
      rw [e2]; omega
  exact key _

/-- Rows of `O` into a slot. -/
theorem stage_row (R : Rect S16x128x1024) (hst : ∀ a, R.stride a = 1) (sq : R.shape.Squeezes S128x1024)
    (off : Fin 3 → ℕ) (hin : ∀ a, off a + S1x128x1024.size a ≤ S2x1024x1024.size a)
    (hst' : ∀ a, (Rect.unit (s := S2x1024x1024) off S1x128x1024.size hin).stride a = 1)
    (sq' : (Rect.unit (s := S2x1024x1024) off S1x128x1024.size hin).shape.Squeezes S128x1024)
    (s : Fin 16) (hR : R = oR s) (hoff : off = xoff c s) (sm : DmaSem sig) (hsm : sm = oSem s) (f : Vec F S16x128x1024 .f32)
    {hsrc : ((xM.slice (Rect.unit (s := S2x1024x1024) off S1x128x1024.size hin) hst').squeeze S128x1024 sq').view.WordExact}
    {hdst : ((oM.slice R hst).squeeze S128x1024 sq).view.WordExact}
    {hsem : DmaTarget.Typed (nD := nD) (τ := τ) (p := .tc) .hbm (.dma sm) (.here ((oM.slice R hst).squeeze S128x1024 sq))}
    {α : Type} {kk : PUnit → Prog (TpuEff nD τ sig (Elt F) Λ₀ .tc) α} {Q : α → sProp 𝕄} :
    iprop(oP c s f ∗ xTok m c s ∗ oSemZ c s)
      ⊢ iprop((oFl m c s -∗ wp frame (wpE (defs₀ (F := F)) Variants.none (c : Thread nD τ) none) Set.univ (kk ⟨⟩) Q)
        -∗ wp frame (wpE (defs₀ (F := F)) Variants.none (c : Thread nD τ) none) Set.univ
            (.op (.enqueueDma ((xM.slice (Rect.unit (s := S2x1024x1024) off S1x128x1024.size hin) hst').squeeze S128x1024 sq')
              (.here ((oM.slice R hst).squeeze S128x1024 sq)) (.dma sm) hsrc hdst hsem) kk) Q) := by
  subst hR hoff hsm
  iintro ⟨Ho, Hx, Hs⟩ Hk
  iapply (Transfers.wp_dmaLocal countersEmb Variants.none (c : Thread nD τ) none (src := (xM.slice (xR c s) hst').squeeze S128x1024 sq')
    (dst := (oM.slice (oR s) hst).squeeze S128x1024 sq) (fs := xV m c) (fd := f) (Sd := (oS s).view.set)
    (q := Transfers.shareTok fullShare 16 s) () 16384 rfl (by decide) (by rw [View.set_reshape])) $$ [Ho Hx Hs]
  · isplitl [Hx]; · rw [View.set_reshape, View.set_slice_whole]; iexact Hx
    isplitl [Ho]; · iexact Ho
    iexact Hs
  iintro Hf
  iapply Hk
  iapply (Transfers.Flight_mono countersEmb (c : Thread nD τ) (sm := .dma (oSem s)) (BIClass.sep_mono ?_ ?_)) $$ Hf
  · exact Entails.of_eq (pointsTo_congr fun i hi => staged_row m c s hst sq hst' sq' f i (by rw [View.set_reshape]; exact hi))
  · rw [View.set_reshape, View.set_slice_whole]

/-- A column piece after the copy. -/
theorem staged_col (j : Fin 4) (f : Vec F S1024x2048 .f32) (i : S1024x2048.Idx) (hi : i ∈ (wS j).view.set) :
    ((wS j).view.write (Elt F) f ((aS j).view.read (Elt F) (aV m c)) Finset.univ : Vec F S1024x2048 .f32) i = aV m c i := by
  obtain ⟨x, -, rfl⟩ := Finset.mem_map.mp hi
  rw [View.write_emb_of_mem _ _ (Finset.mem_univ x)]
  rfl

/-- What its copy credits. -/
theorem wS_amount (j : Fin 4) : (wS j).view.amount (SemLoc.dma (wSem j)) = 65536 := by revert j; decide +kernel

/-- A column piece of `Wo`'s half. -/
theorem stage_col (R : Rect S1024x2048) (hst hst' : ∀ a, R.stride a = 1) (j : Fin 4) (hR : R = wR j) (sm : DmaSem sig) (hsm : sm = wSem j) (f : Vec F S1024x2048 .f32)
    {hsrc : (aM.slice R hst').view.WordExact} {hdst : (wM.slice R hst).view.WordExact}
    {hsem : DmaTarget.Typed (nD := nD) (τ := τ) (p := .tc) .hbm (.dma sm) (.here (wM.slice R hst))}
    {α : Type} {kk : PUnit → Prog (TpuEff nD τ sig (Elt F) Λ₀ .tc) α} {Q : α → sProp 𝕄} :
    iprop(wP c j f ∗ aP c j (aV m c) ∗ wSemZ c j)
      ⊢ iprop((wFl m c j -∗ wp frame (wpE (defs₀ (F := F)) Variants.none (c : Thread nD τ) none) Set.univ (kk ⟨⟩) Q)
        -∗ wp frame (wpE (defs₀ (F := F)) Variants.none (c : Thread nD τ) none) Set.univ
            (.op (.enqueueDma (aM.slice R hst') (.here (wM.slice R hst)) (.dma sm) hsrc hdst hsem) kk) Q) := by
  subst hR hsm
  iintro ⟨Hw, Ha, Hs⟩ Hk
  iapply (Transfers.wp_dmaLocal countersEmb Variants.none (c : Thread nD τ) none (src := aS j) (dst := wS j) (fs := aV m c) (fd := f)
    (Sd := (wS j).view.set) (q := fullShare) () 65536 (wS_amount j) (by decide) (Finset.Subset.refl _)) $$ [Hw Ha Hs]
  · isplitl [Ha]; · iexact Ha
    isplitl [Hw]; · iexact Hw
    iexact Hs
  iintro Hf
  iapply Hk
  iapply (Transfers.Flight_mono countersEmb (c : Thread nD τ) (sm := .dma (wSem j)) (BIClass.sep_mono ?_ ?_)) $$ Hf
  · exact Entails.of_eq (pointsTo_congr fun i hi => staged_col m c j f i hi)
  · exact BI.Entails.refl _

/-! ## The parts -/

/-- What one copy takes. -/
abbrev wIn (j : Fin 4) : sProp 𝕄 := iprop((∃ f, wP c j f) ∗ aP c j (aV m c) ∗ wSemZ c j)
abbrev oIn (s : Fin 16) : sProp 𝕄 := iprop((∃ f, oP c s f) ∗ xTok m c s ∗ oSemZ c s)

theorem part1 (Kt : (Σ' (_ : Dev nD) (_ : BitVec 32) (_ : BitVec 32) (_ : BitVec 32) (_ : BitVec 32), BitVec 32) → sProp 𝕄) :
    iprop((wIn m c 0 ∗ wIn m c 1 ∗ wIn m c 2 ∗ wIn m c 3)
        ∗ (∀ v2 v6 v7 v9 q, (wFl m c 0 ∗ wFl m c 1 ∗ wFl m c 2 ∗ wFl m c 3) -∗ Kt ⟨c, v2, v6, v7, v9, q⟩))
      ⊢ runs c (onBufs k0_part1) Kt := by
  iintro ⟨⟨HA0, HA1, HA2, HA3⟩, Hk⟩
  dsimp only [runs, onBufs]
  sl_unfold [k0_part1]
  sl_exec
  icases HA0 with ⟨⟨%f0, Hw⟩, Ha, Hs⟩
  iapply (stage_col m c _ _ _ 0 rfl _ rfl f0) $$ [Hw Ha Hs]
  · iframe
  iintro Hf0
  icases HA1 with ⟨⟨%f1, Hw⟩, Ha, Hs⟩
  iapply (stage_col m c _ _ _ 1 rfl _ rfl f1) $$ [Hw Ha Hs]
  · iframe
  iintro Hf1
  icases HA2 with ⟨⟨%f2, Hw⟩, Ha, Hs⟩
  iapply (stage_col m c _ _ _ 2 rfl _ rfl f2) $$ [Hw Ha Hs]
  · iframe
  iintro Hf2
  icases HA3 with ⟨⟨%f3, Hw⟩, Ha, Hs⟩
  iapply (stage_col m c _ _ _ 3 rfl _ rfl f3) $$ [Hw Ha Hs]
  · iframe
  iintro Hf3
  dsimp only [Prog.bind]
  sl_step
  iapply Hk
  iframe

theorem part2 (v9 q : BitVec 32) (Kt : BitVec 32 → sProp 𝕄) :
    iprop((oIn m c 0 ∗ oIn m c 1 ∗ oIn m c 2 ∗ oIn m c 3) ∗ (∀ r, (oFl m c 0 ∗ oFl m c 1 ∗ oFl m c 2 ∗ oFl m c 3) -∗ Kt r))
      ⊢ runs c (onBufs k0_part2 c v9 q) Kt := by
  iintro ⟨⟨HA0, HA1, HA2, HA3⟩, Hk⟩
  dsimp only [runs, onBufs]
  sl_unfold [k0_part2]
  icases HA0 with ⟨⟨%f0, Hw⟩, Ha, Hs⟩
  iapply (stage_row m c _ _ _ _ _ _ _ 0 rfl (off_0 c) _ rfl f0) $$ [Hw Ha Hs]
  · iframe
  iintro Hf0
  icases HA1 with ⟨⟨%f1, Hw⟩, Ha, Hs⟩
  iapply (stage_row m c _ _ _ _ _ _ _ 1 rfl (off_1 c) _ rfl f1) $$ [Hw Ha Hs]
  · iframe
  iintro Hf1
  icases HA2 with ⟨⟨%f2, Hw⟩, Ha, Hs⟩
  iapply (stage_row m c _ _ _ _ _ _ _ 2 rfl (off_2 c) _ rfl f2) $$ [Hw Ha Hs]
  · iframe
  iintro Hf2
  icases HA3 with ⟨⟨%f3, Hw⟩, Ha, Hs⟩
  iapply (stage_row m c _ _ _ _ _ _ _ 3 rfl (off_3 c) _ rfl f3) $$ [Hw Ha Hs]
  · iframe
  iintro Hf3
  dsimp only [Prog.bind]
  sl_step
  iapply Hk $$ %_
  iframe

theorem part3 (v9 q : BitVec 32) (Kt : BitVec 32 → sProp 𝕄) :
    iprop((oIn m c 4 ∗ oIn m c 5 ∗ oIn m c 6 ∗ oIn m c 7) ∗ (∀ r, (oFl m c 4 ∗ oFl m c 5 ∗ oFl m c 6 ∗ oFl m c 7) -∗ Kt r))
      ⊢ runs c (onBufs k0_part3 c v9 q) Kt := by
  iintro ⟨⟨HA4, HA5, HA6, HA7⟩, Hk⟩
  dsimp only [runs, onBufs]
  sl_unfold [k0_part3]
  icases HA4 with ⟨⟨%f4, Hw⟩, Ha, Hs⟩
  iapply (stage_row m c _ _ _ _ _ _ _ 4 rfl (off_4 c) _ rfl f4) $$ [Hw Ha Hs]
  · iframe
  iintro Hf4
  icases HA5 with ⟨⟨%f5, Hw⟩, Ha, Hs⟩
  iapply (stage_row m c _ _ _ _ _ _ _ 5 rfl (off_5 c) _ rfl f5) $$ [Hw Ha Hs]
  · iframe
  iintro Hf5
  icases HA6 with ⟨⟨%f6, Hw⟩, Ha, Hs⟩
  iapply (stage_row m c _ _ _ _ _ _ _ 6 rfl (off_6 c) _ rfl f6) $$ [Hw Ha Hs]
  · iframe
  iintro Hf6
  icases HA7 with ⟨⟨%f7, Hw⟩, Ha, Hs⟩
  iapply (stage_row m c _ _ _ _ _ _ _ 7 rfl (off_7 c) _ rfl f7) $$ [Hw Ha Hs]
  · iframe
  iintro Hf7
  dsimp only [Prog.bind]
  sl_step
  iapply Hk $$ %_
  iframe

theorem part4 (v7 q : BitVec 32) (Kt : BitVec 32 → sProp 𝕄) :
    iprop((oIn m c 8 ∗ oIn m c 9 ∗ oIn m c 10 ∗ oIn m c 11) ∗ (∀ r, (oFl m c 8 ∗ oFl m c 9 ∗ oFl m c 10 ∗ oFl m c 11) -∗ Kt r))
      ⊢ runs c (onBufs k0_part4 c v7 q) Kt := by
  iintro ⟨⟨HA8, HA9, HA10, HA11⟩, Hk⟩
  dsimp only [runs, onBufs]
  sl_unfold [k0_part4]
  icases HA8 with ⟨⟨%f8, Hw⟩, Ha, Hs⟩
  iapply (stage_row m c _ _ _ _ _ _ _ 8 rfl (off_8 c) _ rfl f8) $$ [Hw Ha Hs]
  · iframe
  iintro Hf8
  icases HA9 with ⟨⟨%f9, Hw⟩, Ha, Hs⟩
  iapply (stage_row m c _ _ _ _ _ _ _ 9 rfl (off_9 c) _ rfl f9) $$ [Hw Ha Hs]
  · iframe
  iintro Hf9
  icases HA10 with ⟨⟨%f10, Hw⟩, Ha, Hs⟩
  iapply (stage_row m c _ _ _ _ _ _ _ 10 rfl (off_10 c) _ rfl f10) $$ [Hw Ha Hs]
  · iframe
  iintro Hf10
  icases HA11 with ⟨⟨%f11, Hw⟩, Ha, Hs⟩
  iapply (stage_row m c _ _ _ _ _ _ _ 11 rfl (off_11 c) _ rfl f11) $$ [Hw Ha Hs]
  · iframe
  iintro Hf11
  dsimp only [Prog.bind]
  sl_step
  iapply Hk $$ %_
  iframe

theorem part5 (v7 q : BitVec 32) (Kt : Sems sig S_ → sProp 𝕄) :
    iprop((oIn m c 12 ∗ oIn m c 13 ∗ oIn m c 14 ∗ oIn m c 15) ∗ ((oFl m c 12 ∗ oFl m c 13 ∗ oFl m c 14 ∗ oFl m c 15) -∗ Kt (SemArray.scalar (sig.barrier 0 rfl))))
      ⊢ runs c (onBufs k0_part5 c v7 q) Kt := by
  iintro ⟨⟨HA12, HA13, HA14, HA15⟩, Hk⟩
  dsimp only [runs, onBufs]
  sl_unfold [k0_part5]
  icases HA12 with ⟨⟨%f12, Hw⟩, Ha, Hs⟩
  iapply (stage_row m c _ _ _ _ _ _ _ 12 rfl (off_12 c) _ rfl f12) $$ [Hw Ha Hs]
  · iframe
  iintro Hf12
  icases HA13 with ⟨⟨%f13, Hw⟩, Ha, Hs⟩
  iapply (stage_row m c _ _ _ _ _ _ _ 13 rfl (off_13 c) _ rfl f13) $$ [Hw Ha Hs]
  · iframe
  iintro Hf13
  icases HA14 with ⟨⟨%f14, Hw⟩, Ha, Hs⟩
  iapply (stage_row m c _ _ _ _ _ _ _ 14 rfl (off_14 c) _ rfl f14) $$ [Hw Ha Hs]
  · iframe
  iintro Hf14
  icases HA15 with ⟨⟨%f15, Hw⟩, Ha, Hs⟩
  iapply (stage_row m c _ _ _ _ _ _ _ 15 rfl (off_15 c) _ rfl f15) $$ [Hw Ha Hs]
  · iframe
  iintro Hf15
  dsimp only [Prog.bind]
  sl_step
  iapply Hk
  iframe

end Cert.KernelIdeal.Pf

end
-- ==== Proof.Ideal.Columns.lean ====
/-
  Parts 6 to 9 of the kernel: the two devices of a pair meet at the barrier, which hands each the other's receive buffer;
  then, column piece by column piece, `Wo`'s half is rounded to bf16 and the first block of rows is multiplied by it, each
  product being sent as soon as it is stored.
-/
module

public import proofs.«01_k».proof.Proof.Ideal.Pieces

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

variable (K : GSem nD τ sig → ℕ) (c : Dev nD)

/-- What the meeting takes. -/
abbrev toMeet (c : Dev nD) : sProp 𝕄 :=
  iprop(dutyTok ER (barCell (pr c)) 0 () ∗ reached ER (barCell (pr c)) 0 ∗ barPay (pr c)
    ∗ atPos ER (barCell c) 0 ∅ 0 ∗ cred (tallyAt (barCell c) () 1) ∗ ∃ W, owes (c : Thread nD τ) (O₀ c) W)

/-- The rounded columns as they are stored and read again. -/
theorem bcol_value (j : Fin 4) : k0_pay3 (View.readAt (Elt F) wM.view (wR j).toLoadRect (aV m c)) = wB m c j :=
  (store_bcol m c j).trans (read_bcol m c j)

/-- The product of the first block of rows with a column piece. -/
theorem col_value (j : Fin 4) :
    k0_pay7 (k0_pay2 (oB m c 0)) (k0_pay3 (View.readAt (Elt F) wM.view (wR j).toLoadRect (aV m c))) = colV m c j := by
  rw [bcol_value]; rfl

/-- A column piece of the send buffer after the product has been stored there. -/
theorem scol_sent (j : Fin 4) (f : Vec F S2x512x2048 .bf16) :
    sCol c j ((sM.access (colR j)).write (Elt F) f
        (k0_pay7 (k0_pay2 (oB m c 0)) (k0_pay3 (View.readAt (Elt F) wM.view (wR j).toLoadRect (aV m c)))) Finset.univ)
      ⊢ (sP c ⟨j.val, by have := j.isLt; omega⟩ (sV m c) : sProp 𝕄) := by
  rw [col_value]; exact scol_stored m c j f

/-- The meeting: a unit to the peer's barrier, with the device's own receive buffer, for the peer's. -/
theorem meet {α : Type} {k : PUnit → Prog (TpuEff nD τ sig (Elt F) Λ₀ .tc) α} {Q : α → sProp 𝕄} :
    iprop(records m K ∗ dutyTok ER (barCell (pr c)) 0 () ∗ reached ER (barCell (pr c)) 0 ∗ barPay (pr c) ∗ ∃ W, owes (c : Thread nD τ) (O₀ c) W)
      ⊢ iprop((owing c 0 -∗ wp frame (wpE (defs₀ (F := F)) Variants.none (c : Thread nD τ) none) Set.univ (k ⟨⟩) Q)
        -∗ wp frame (wpE (defs₀ (F := F)) Variants.none (c : Thread nD τ) none) Set.univ
            (.op (.semSignal ((pr c : Dev nD) : Thread nD τ) barrier0 1) k) Q) := by
  iintro ⟨#HK, Ht, #Hr, Hp, %W, HO⟩ Hk
  ihave #HI := (records_bar m K (pr c)) $$ HK
  ihave Hp := (Entails.of_eq (payload_bar m (pr c) ()).symm) $$ Hp
  iapply (Rounds.wp_signal Variants.none ER (rd m) (c : Thread nD τ) none (dst := (pr c : Thread nD τ)) (sem := barrier0) (r := 0) (d := ()) (κ := K (barCell (pr c)))
    (by rw [duties_bar]; exact Finset.mem_singleton_self _) (amount_bar m (pr c) ()) () (owed c 0) rfl) $$ [HO Ht Hp]
  · isplitr; · iexact HI
    isplitl [HO]; · iexact HO
    isplitl [Ht]; · iexact Ht
    isplitl [Hp]; · iexact Hp
    iexact Hr
  iintro HO
  iapply Hk
  iexists _; iexact HO

theorem met {α : Type} {k : PUnit → Prog (TpuEff nD τ sig (Elt F) Λ₀ .tc) α} {Q : α → sProp 𝕄} :
    iprop(Ctx m K ∗ atPos ER (barCell c) 0 ∅ 0 ∗ cred (tallyAt (barCell c) () 1) ∗ owing c 0)
      ⊢ iprop(((barPay c ∗ atPos ER (barCell c) (0 + 1) ∅ 0 ∗ owing c 0) -∗ wp frame (wpE (defs₀ (F := F)) Variants.none (c : Thread nD τ) none) Set.univ (k ⟨⟩) Q)
        -∗ wp frame (wpE (defs₀ (F := F)) Variants.none (c : Thread nD τ) none) Set.univ (.op (.semWait barrier0 1) k) Q) := by
  iintro ⟨⟨#HK, #Hlev⟩, Hat, Hc, %W, HO⟩ Hk
  ihave #HI := (records_bar m K c) $$ HK
  ihave #HM := (mayWait_owed (F := F) c (.reg barrier0) (fun u => Nat.le_of_eq (lv_bar c u)) 0) $$ Hlev
  iapply (Rounds.wp_wait_rest_token Variants.none ER (rd m) (c : Thread nD τ) none (κ := K (barCell c)) (wpE_semWait_eq Variants.none (c : Thread nD τ) none Set.univ) (Set.mem_univ _) ()
    (O := owed c 0) (W := W) (R := 0) (m := 0) (T := ∅) ((Nat.zero_add 1).trans (expect_bar m c).symm)) $$ [Hat Hc HO]
  · isplitr; · iexact HI
    isplitl [Hc]; · iexact Hc
    isplitl [HO]; · iexact HO
    isplitr; · iexact HM
    iexact Hat
  iintro ⟨HO, Hat, -, Hpay⟩
  ihave Hp := (Entails.of_eq (rest_bar m c)) $$ Hpay
  iapply Hk
  isplitl [Hp]; · iexact Hp
  isplitl [Hat]; · iexact Hat
  iexists _; iexact HO

theorem part6 (f : Vec F S1024x2048 .bf16) (v2 v6 : BitVec 32) (Kt : (Σ' (_ : FVec F S128x1024 .bf16), FVec F S128x512 .bf16) → sProp 𝕄) :
    iprop(Ctx m K ∗ (toMeet c ∗ oFl m c 0 ∗ wFl m c 0 ∗ bC c 0 f)
        ∗ ((barPay c ∗ atPos ER (barCell c) (0 + 1) ∅ 0 ∗ oP c 0 (oV m c) ∗ xTok m c 0 ∗ oSemZ c 0 ∗ wP c 0 (aV m c) ∗ aP c 0 (aV m c) ∗ wSemZ c 0 ∗ bC c 0 (wV m c) ∗ owing c 0)
            -∗ Kt ⟨k0_pay2 (oB m c 0), k0_pay4 (oB m c 0) (wB m c 0)⟩))
      ⊢ runs c (onBufs k0_part6 c v2 v6 (SemArray.scalar (sig.barrier 0 rfl))) Kt := by
  iintro ⟨⟨#HK, #Hlev⟩, ⟨⟨HtP, #HrP, HpP, HatB, HcB, HO⟩, Ho, Hw, Hb⟩, Hk⟩
  dsimp only [runs, onBufs]
  sl_unfold [k0_part6]
  have hmw := mayWait_low (F := F) c
  sl_exec
  rw [dev1]
  iapply (meet m K c) $$ [HtP HpP HO]
  · isplitr; · iexact HK
    isplitl [HtP]; · iexact HtP
    isplitr; · iexact HrP
    isplitl [HpP]; · iexact HpP
    iexact HO
  iintro HO
  sl_exec
  iapply (met m K c) $$ [HatB HcB HO]
  · isplitr; · isplitr; · iexact HK
               iexact Hlev
    iframe
  iintro ⟨Hbar, HatB, %W', HO⟩
  sl_exec
  ihave Hb := (show bC c 0 (part6.sl.Hb_w1 m c f) ⊢ bC c 0 (wV m c) from bcol_stored m c 0 f) $$ Hb
  sl_step
  iapply (show Kt ⟨k0_pay2 (oB m c 0), k0_pay4 (oB m c 0) (wB m c 0)⟩ ⊢ Kt ⟨k0_pay2 (View.readAt (Elt F) oM.view (Rect.unit (s := S16x128x1024) ![0, 0, 0] S1x128x1024.size inb_S16x128x1024_S1x128x1024_0_0_0).toLoadRect (oV m c)),
      k0_pay4 (View.readAt (Elt F) oM.view (Rect.unit (s := S16x128x1024) ![0, 0, 0] S1x128x1024.size inb_S16x128x1024_S1x128x1024_0_0_0).toLoadRect (oV m c))
        (k0_pay3 (View.readAt (Elt F) wM.view (Rect.unit (s := S1024x2048) ![0, 0] S1024x512.size inb_S1024x2048_S1024x512_0_0).toLoadRect (aV m c)))⟩ from
    Entails.of_eq (congrArg₂ (fun x y => Kt ⟨k0_pay2 x, k0_pay4 x y⟩) (read_slot m c 0).symm (bcol_value m c 0).symm))
  iapply Hk
  iframe
  iexists _; iexact HO

theorem part7 (g : Vec F S1024x2048 .bf16) (f : Vec F S2x512x2048 .bf16) (v2 v6 : BitVec 32) (Kt : FVec F S1x128x512 .bf16 → sProp 𝕄) :
    iprop(Ctx m K ∗ (sCol c 0 f ∗ toSend c 0 ∗ wFl m c 1 ∗ bC c 1 g ∗ sCol c 1 f ∗ owing c 0)
        ∗ ((sFl m c 0 ∗ wP c 1 (aV m c) ∗ aP c 1 (aV m c) ∗ wSemZ c 1 ∗ bC c 1 (wV m c) ∗ sCol c 1 f ∗ owing c 1) -∗ Kt (colV m c 1)))
      ⊢ runs c (onBufs k0_part7 c v2 v6 (k0_pay2 (oB m c 0)) (k0_pay4 (oB m c 0) (wB m c 0))) Kt := by
  iintro ⟨⟨#HK, #Hlev⟩, ⟨Hs0, Hd0, Hw, Hb, Hs1, %W, HO⟩, Hk⟩
  dsimp only [runs, onBufs]
  sl_unfold [k0_part7]
  have hmw := mayWait_low (F := F) c
  sl_exec
  ihave Hp0 := (show sCol c 0 (part7.sl.Hs0_w1 m c f) ⊢ sP c 0 (sV m c) from scol_stored m c 0 f) $$ Hs0
  iapply (send_piece m _ _ _ c 0 K (pset_col 0) _ (dev2 c) _ _ rfl rfl rfl) $$ [Hd0 Hp0 HO]
  · isplitr; · iexact HK
    iframe
    iexists _; iexact HO
  iintro ⟨Hf0, %W', HO⟩
  sl_exec
  ihave Hb := (show bC c 1 (part7.sl.Hb_w1 m c g) ⊢ bC c 1 (wV m c) from bcol_stored m c 1 g) $$ Hb
  sl_step
  iapply (show Kt (colV m c 1) ⊢ Kt (k0_pay7 (k0_pay2 (oB m c 0)) (k0_pay6 (View.readAt (Elt F) wM.view (Rect.unit (s := S1024x2048) ![0, 512] S1024x512.size inb_S1024x2048_S1024x512_0_512).toLoadRect (aV m c)))) from
    Entails.of_eq (congrArg Kt (col_value m c 1).symm))
  iapply Hk
  iframe
  iexists _; iexact HO

theorem part8 (g : Vec F S1024x2048 .bf16) (f : Vec F S2x512x2048 .bf16) (v2 v6 : BitVec 32) (Kt : PUnit → sProp 𝕄) :
    iprop(Ctx m K ∗ (sCol c 1 f ∗ toSend c 1 ∗ wFl m c 2 ∗ bC c 2 g ∗ sCol c 2 f ∗ owing c 1)
        ∗ ((sFl m c 1 ∗ wP c 2 (aV m c) ∗ aP c 2 (aV m c) ∗ wSemZ c 2 ∗ bC c 2 (wV m c) ∗ sP c 2 (sV m c) ∗ owing c 2) -∗ Kt ⟨⟩))
      ⊢ runs c (onBufs k0_part8 c v2 v6 (k0_pay2 (oB m c 0)) (colV m c 1)) Kt := by
  iintro ⟨⟨#HK, #Hlev⟩, ⟨Hs1, Hd1, Hw, Hb, Hs2, %W, HO⟩, Hk⟩
  dsimp only [runs, onBufs]
  sl_unfold [k0_part8]
  have hmw := mayWait_low (F := F) c
  sl_exec

  ihave Hp1 := (show sCol c 1 (part8.sl.Hs1_w1 m c f) ⊢ sP c 1 (sV m c) from scol_stored m c 1 f) $$ Hs1
  iapply (send_piece m _ _ _ c 1 K (pset_col 1) _ (dev3 c) _ _ rfl rfl rfl) $$ [Hd1 Hp1 HO]
  · isplitr; · iexact HK
    iframe
    iexists _; iexact HO
  iintro ⟨Hf1, %W', HO⟩
  sl_exec
  ihave Hb := (show bC c 2 (part8.sl.Hb_w1 m c g) ⊢ bC c 2 (wV m c) from bcol_stored m c 2 g) $$ Hb
  ihave Hs2 := (show sCol c 2 (part8.sl.Hs2_w2 m c f) ⊢ sP c 2 (sV m c) from scol_sent m c 2 f) $$ Hs2
  sl_step
  iapply Hk
  iframe
  iexists _; iexact HO

theorem part9 (g : Vec F S1024x2048 .bf16) (f : Vec F S2x512x2048 .bf16) (v2 v6 : BitVec 32) (Kt : BitVec 32 → sProp 𝕄) :
    iprop(Ctx m K ∗ (sP c 2 (sV m c) ∗ toSend c 2 ∗ wFl m c 3 ∗ bC c 3 g ∗ sCol c 3 f ∗ owing c 2)
        ∗ (∀ r, (sFl m c 2 ∗ wP c 3 (aV m c) ∗ aP c 3 (aV m c) ∗ wSemZ c 3 ∗ bC c 3 (wV m c) ∗ sP c 3 (sV m c) ∗ owing c 3) -∗ Kt r))
      ⊢ runs c (onBufs k0_part9 c v2 v6 (k0_pay2 (oB m c 0))) Kt := by
  iintro ⟨⟨#HK, #Hlev⟩, ⟨Hp2, Hd2, Hw, Hb, Hs3, %W, HO⟩, Hk⟩
  dsimp only [runs, onBufs]
  sl_unfold [k0_part9]
  have hmw := mayWait_low (F := F) c
  sl_exec
  iapply (send_piece m _ _ _ c 2 K (pset_col 2) _ (dev4 c) _ _ rfl rfl rfl) $$ [Hd2 Hp2 HO]
  · isplitr; · iexact HK
    iframe
    iexists _; iexact HO
  iintro ⟨Hf2, %W', HO⟩
  sl_exec
  ihave Hb := (show bC c 3 (part9.sl.Hb_w1 m c g) ⊢ bC c 3 (wV m c) from bcol_stored m c 3 g) $$ Hb
  ihave Hs3 := (show sCol c 3 (part9.sl.Hs3_w2 m c f) ⊢ sP c 3 (sV m c) from scol_sent m c 3 f) $$ Hs3
  sl_step
  iapply Hk $$ %_
  iframe
  iexists _; iexact HO

end Cert.KernelIdeal.Pf

end
-- ==== Proof.Ideal.Rows.lean ====
/-
  Parts 10 to 16 of the kernel: a piece of the product is copied to the peer, the next block of staged rows is waited for,
  multiplied by the device's half of `Wo`, rounded, and stored into the send buffer.
-/
module

public import proofs.«01_k».proof.Proof.Ideal.Pieces

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

variable (K : GSem nD τ sig → ℕ) (c : Dev nD) (f : Vec F S2x512x2048 .bf16)

theorem part10 (v2 v6 q : BitVec 32) (Kt : (Σ' (_ : BitVec 32), BitVec 32) → sProp 𝕄) :
    iprop(Ctx m K ∗ (toSend c 3 ∗ sP c 3 (sV m c) ∗ oFl m c 1 ∗ bP m c ∗ sRow c 1 f ∗ owing c 3)
        ∗ (∀ r, (sFl m c 3 ∗ oP c 1 (oV m c) ∗ xTok m c 1 ∗ oSemZ c 1 ∗ bP m c ∗ sP c 4 (sV m c) ∗ owing c 4) -∗ Kt r))
      ⊢ runs c (onBufs k0_part10 c v2 v6 q) Kt := by
  iintro ⟨⟨#HK, #Hlev⟩, ⟨Hd3, Hs3, Ho, Hb, Hr, %W, HO⟩, Hk⟩
  dsimp only [runs, onBufs]
  sl_unfold [k0_part10]
  have hmw := mayWait_low (F := F) c
  sl_exec
  iapply (send_piece m _ _ _ c 3 K (pset_col 3) _ (dev5 c) _ _ rfl rfl rfl) $$ [Hd3 Hs3 HO]
  · isplitr; · iexact HK
    iframe
    iexists _; iexact HO
  iintro ⟨Hf3, %W', HO⟩
  sl_exec
  ihave Hs4 := (show sRow c 1 (part10.sl.Hr_w1 m c f) ⊢ sP c 4 (sV m c) from srow_stored m c 1 (by decide) f) $$ Hr
  sl_step
  iapply Hk $$ %_
  iframe
  iexists _; iexact HO

theorem part11 (v2 v6 v276 q : BitVec 32) (Kt : PUnit → sProp 𝕄) :
    iprop(Ctx m K ∗ (toSend c 4 ∗ sP c 4 (sV m c) ∗ oFl m c 2 ∗ bP m c ∗ sRow c 2 f ∗ owing c 4)
        ∗ ((sFl m c 4 ∗ oP c 2 (oV m c) ∗ xTok m c 2 ∗ oSemZ c 2 ∗ bP m c ∗ sP c 5 (sV m c) ∗ owing c 5) -∗ Kt ⟨⟩))
      ⊢ runs c (onBufs k0_part11 c v2 v6 v276 q) Kt := by
  iintro ⟨⟨#HK, #Hlev⟩, ⟨Hd4, Hs4, Ho, Hb, Hr, %W, HO⟩, Hk⟩
  dsimp only [runs, onBufs]
  sl_unfold [k0_part11]
  have hmw := mayWait_low (F := F) c
  sl_exec
  iapply (send_piece m _ _ _ c 4 K (pset_row 1 (by decide)) _ (dev6 c) _ _ rfl rfl rfl) $$ [Hd4 Hs4 HO]
  · isplitr; · iexact HK
    iframe
    iexists _; iexact HO
  iintro ⟨Hf4, %W', HO⟩
  sl_exec
  ihave Hs5 := (show sRow c 2 (part11.sl.Hr_w1 m c f) ⊢ sP c 5 (sV m c) from srow_stored m c 2 (by decide) f) $$ Hr
  sl_step
  iapply Hk
  iframe
  iexists _; iexact HO

theorem part12 (v2 v6 : BitVec 32) (Kt : PUnit → sProp 𝕄) :
    iprop(Ctx m K ∗ (toSend c 5 ∗ sP c 5 (sV m c) ∗ oFl m c 3 ∗ bP m c ∗ sRow c 3 f ∗ owing c 5)
        ∗ ((sFl m c 5 ∗ oP c 3 (oV m c) ∗ xTok m c 3 ∗ oSemZ c 3 ∗ bP m c ∗ sP c 6 (sV m c) ∗ owing c 6) -∗ Kt ⟨⟩))
      ⊢ runs c (onBufs k0_part12 c v2 v6) Kt := by
  iintro ⟨⟨#HK, #Hlev⟩, ⟨Hd5, Hs5, Ho, Hb, Hr, %W, HO⟩, Hk⟩
  dsimp only [runs, onBufs]
  sl_unfold [k0_part12]
  have hmw := mayWait_low (F := F) c
  sl_exec
  iapply (send_piece m _ _ _ c 5 K (pset_row 2 (by decide)) _ (dev7 c) _ _ rfl rfl rfl) $$ [Hd5 Hs5 HO]
  · isplitr; · iexact HK
    iframe
    iexists _; iexact HO
  iintro ⟨Hf5, %W', HO⟩
  sl_exec
  ihave Hs6 := (show sRow c 3 (part12.sl.Hr_w1 m c f) ⊢ sP c 6 (sV m c) from srow_stored m c 3 (by decide) f) $$ Hr
  sl_step
  iapply Hk
  iframe
  iexists _; iexact HO

theorem part13 (v2 v6 : BitVec 32) (Kt : PUnit → sProp 𝕄) :
    iprop(Ctx m K ∗ (toSend c 6 ∗ sP c 6 (sV m c) ∗ oFl m c 4 ∗ bP m c ∗ sRow c 4 f ∗ owing c 6)
        ∗ ((sFl m c 6 ∗ oP c 4 (oV m c) ∗ xTok m c 4 ∗ oSemZ c 4 ∗ bP m c ∗ sP c 7 (sV m c) ∗ owing c 7) -∗ Kt ⟨⟩))
      ⊢ runs c (onBufs k0_part13 c v2 v6) Kt := by
  iintro ⟨⟨#HK, #Hlev⟩, ⟨Hd6, Hs6, Ho, Hb, Hr, %W, HO⟩, Hk⟩
  dsimp only [runs, onBufs]
  sl_unfold [k0_part13]
  have hmw := mayWait_low (F := F) c
  sl_exec
  iapply (send_piece m _ _ _ c 6 K (pset_row 3 (by decide)) _ (dev8 c) _ _ rfl rfl rfl) $$ [Hd6 Hs6 HO]
  · isplitr; · iexact HK
    iframe
    iexists _; iexact HO
  iintro ⟨Hf6, %W', HO⟩
  sl_exec
  ihave Hs7 := (show sRow c 4 (part13.sl.Hr_w1 m c f) ⊢ sP c 7 (sV m c) from srow_stored m c 4 (by decide) f) $$ Hr
  sl_step
  iapply Hk
  iframe
  iexists _; iexact HO

theorem part14 (v2 v6 : BitVec 32) (Kt : PUnit → sProp 𝕄) :
    iprop(Ctx m K ∗ (toSend c 7 ∗ sP c 7 (sV m c) ∗ oFl m c 5 ∗ bP m c ∗ sRow c 5 f ∗ toSend c 8 ∗ owing c 7)
        ∗ ((sFl m c 7 ∗ oP c 5 (oV m c) ∗ xTok m c 5 ∗ oSemZ c 5 ∗ bP m c ∗ sFl m c 8 ∗ owing c 9) -∗ Kt ⟨⟩))
      ⊢ runs c (onBufs k0_part14 c v2 v6) Kt := by
  iintro ⟨⟨#HK, #Hlev⟩, ⟨Hd7, Hs7, Ho, Hb, Hr, Hd8, %W, HO⟩, Hk⟩
  dsimp only [runs, onBufs]
  sl_unfold [k0_part14]
  have hmw := mayWait_low (F := F) c
  sl_exec
  iapply (send_piece m _ _ _ c 7 K (pset_row 4 (by decide)) _ (dev9 c) _ _ rfl rfl rfl) $$ [Hd7 Hs7 HO]
  · isplitr; · iexact HK
    iframe
    iexists _; iexact HO
  iintro ⟨Hf7, %W', HO⟩
  sl_exec
  ihave Hs8 := (show sRow c 5 (part14.sl.Hr_w1 m c f) ⊢ sP c 8 (sV m c) from srow_stored m c 5 (by decide) f) $$ Hr
  iapply (send_piece m _ _ _ c 8 K (pset_row 5 (by decide)) _ (dev10 c) _ _ rfl rfl rfl) $$ [Hd8 Hs8 HO]
  · isplitr; · iexact HK
    iframe
    iexists _; iexact HO
  iintro ⟨Hf8, %W', HO⟩
  sl_step
  iapply Hk
  iframe
  iexists _; iexact HO

theorem part15 (v2 v6 : BitVec 32) (Kt : PUnit → sProp 𝕄) :
    iprop(Ctx m K ∗ (oFl m c 6 ∗ bP m c ∗ sRow c 6 f ∗ toSend c 9 ∗ owing c 9)
        ∗ ((oP c 6 (oV m c) ∗ xTok m c 6 ∗ oSemZ c 6 ∗ bP m c ∗ sFl m c 9 ∗ owing c 10) -∗ Kt ⟨⟩))
      ⊢ runs c (onBufs k0_part15 c v2 v6) Kt := by
  iintro ⟨⟨#HK, #Hlev⟩, ⟨Ho, Hb, Hr, Hd9, %W, HO⟩, Hk⟩
  dsimp only [runs, onBufs]
  sl_unfold [k0_part15]
  have hmw := mayWait_low (F := F) c
  sl_exec
  ihave Hs9 := (show sRow c 6 (part15.sl.Hr_w1 m c f) ⊢ sP c 9 (sV m c) from srow_stored m c 6 (by decide) f) $$ Hr
  iapply (send_piece m _ _ _ c 9 K (pset_row 6 (by decide)) _ (dev11 c) _ _ rfl rfl rfl) $$ [Hd9 Hs9 HO]
  · isplitr; · iexact HK
    iframe
    iexists _; iexact HO
  iintro ⟨Hf9, %W', HO⟩
  sl_step
  iapply Hk
  iframe
  iexists _; iexact HO

theorem part16 (v2 v6 : BitVec 32) (Kt : PUnit → sProp 𝕄) :
    iprop(Ctx m K ∗ (oFl m c 7 ∗ bP m c ∗ sRow c 7 f ∗ toSend c 10 ∗ owing c 10)
        ∗ ((oP c 7 (oV m c) ∗ xTok m c 7 ∗ oSemZ c 7 ∗ bP m c ∗ sFl m c 10 ∗ owing c 11) -∗ Kt ⟨⟩))
      ⊢ runs c (onBufs k0_part16 c v2 v6) Kt := by
  iintro ⟨⟨#HK, #Hlev⟩, ⟨Ho, Hb, Hr, Hd10, %W, HO⟩, Hk⟩
  dsimp only [runs, onBufs]
  sl_unfold [k0_part16]
  have hmw := mayWait_low (F := F) c
  sl_exec
  ihave Hs10 := (show sRow c 7 (part16.sl.Hr_w1 m c f) ⊢ sP c 10 (sV m c) from srow_stored m c 7 (by decide) f) $$ Hr
  iapply (send_piece m _ _ _ c 10 K (pset_row 7 (by decide)) _ (dev12 c) _ _ rfl rfl rfl) $$ [Hd10 Hs10 HO]
  · isplitr; · iexact HK
    iframe
    iexists _; iexact HO
  iintro ⟨Hf10, %W', HO⟩
  sl_step
  iapply Hk
  iframe
  iexists _; iexact HO

end Cert.KernelIdeal.Pf

end
-- ==== Proof.Ideal.Own.lean ====
/-
  Parts 17 to 20 of the kernel: the device's own rows, block by block, multiplied by its half of `Wo` and stored into the
  result window.
-/
module

public import proofs.«01_k».proof.Proof.Ideal.Pieces

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

variable (c : Dev nD) (f : Vec F S2x512x2048 .f32)

theorem part17 (Kt : PUnit → sProp 𝕄) :
    iprop(levAts L lv ∗ (oFl m c 8 ∗ gRow c 0 f ∗ oFl m c 9 ∗ gRow c 1 f ∗ bP m c ∗ owing c 11)
        ∗ ((oP c 8 (oV m c) ∗ xTok m c 8 ∗ oSemZ c 8 ∗ gRow c 0 (gV m c) ∗ oP c 9 (oV m c) ∗ xTok m c 9 ∗ oSemZ c 9 ∗ gRow c 1 (gV m c) ∗ bP m c ∗ owing c 11) -∗ Kt ⟨⟩))
      ⊢ runs c (onBufs k0_part17 c) Kt := by
  iintro ⟨#Hlev, ⟨Ho8, Hg0, Ho9, Hg1, Hb, %W, HO⟩, Hk⟩
  dsimp only [runs, onBufs]
  sl_unfold [k0_part17]
  have hmw := mayWait_low (F := F) c
  sl_exec
  ihave Hg0 := (show gRow c 0 (part17.sl.Hg0_w1 m c f) ⊢ gRow c 0 (gV m c) from grow_stored m c 0 f) $$ Hg0
  ihave Hg1 := (show gRow c 1 (part17.sl.Hg1_w2 m c f) ⊢ gRow c 1 (gV m c) from grow_stored m c 1 f) $$ Hg1
  sl_step
  iapply Hk
  iframe
  iexists _; iexact HO

theorem part18 (Kt : PUnit → sProp 𝕄) :
    iprop(levAts L lv ∗ (oFl m c 10 ∗ gRow c 2 f ∗ oFl m c 11 ∗ gRow c 3 f ∗ bP m c ∗ owing c 11)
        ∗ ((oP c 10 (oV m c) ∗ xTok m c 10 ∗ oSemZ c 10 ∗ gRow c 2 (gV m c) ∗ oP c 11 (oV m c) ∗ xTok m c 11 ∗ oSemZ c 11 ∗ gRow c 3 (gV m c) ∗ bP m c ∗ owing c 11) -∗ Kt ⟨⟩))
      ⊢ runs c (onBufs k0_part18 c) Kt := by
  iintro ⟨#Hlev, ⟨Ho10, Hg2, Ho11, Hg3, Hb, %W, HO⟩, Hk⟩
  dsimp only [runs, onBufs]
  sl_unfold [k0_part18]
  have hmw := mayWait_low (F := F) c
  sl_exec
  ihave Hg2 := (show gRow c 2 (part18.sl.Hg2_w1 m c f) ⊢ gRow c 2 (gV m c) from grow_stored m c 2 f) $$ Hg2
  ihave Hg3 := (show gRow c 3 (part18.sl.Hg3_w2 m c f) ⊢ gRow c 3 (gV m c) from grow_stored m c 3 f) $$ Hg3
  sl_step
  iapply Hk
  iframe
  iexists _; iexact HO

theorem part19 (Kt : PUnit → sProp 𝕄) :
    iprop(levAts L lv ∗ (oFl m c 12 ∗ gRow c 4 f ∗ oFl m c 13 ∗ gRow c 5 f ∗ bP m c ∗ owing c 11)
        ∗ ((oP c 12 (oV m c) ∗ xTok m c 12 ∗ oSemZ c 12 ∗ gRow c 4 (gV m c) ∗ oP c 13 (oV m c) ∗ xTok m c 13 ∗ oSemZ c 13 ∗ gRow c 5 (gV m c) ∗ bP m c ∗ owing c 11) -∗ Kt ⟨⟩))
      ⊢ runs c (onBufs k0_part19 c) Kt := by
  iintro ⟨#Hlev, ⟨Ho12, Hg4, Ho13, Hg5, Hb, %W, HO⟩, Hk⟩
  dsimp only [runs, onBufs]
  sl_unfold [k0_part19]
  have hmw := mayWait_low (F := F) c
  sl_exec
  ihave Hg4 := (show gRow c 4 (part19.sl.Hg4_w1 m c f) ⊢ gRow c 4 (gV m c) from grow_stored m c 4 f) $$ Hg4
  ihave Hg5 := (show gRow c 5 (part19.sl.Hg5_w2 m c f) ⊢ gRow c 5 (gV m c) from grow_stored m c 5 f) $$ Hg5
  sl_step
  iapply Hk
  iframe
  iexists _; iexact HO

theorem part20 (Kt : PUnit → sProp 𝕄) :
    iprop(levAts L lv ∗ (oFl m c 14 ∗ gRow c 6 f ∗ oFl m c 15 ∗ gRow c 7 f ∗ bP m c ∗ owing c 11)
        ∗ ((oP c 14 (oV m c) ∗ xTok m c 14 ∗ oSemZ c 14 ∗ gRow c 6 (gV m c) ∗ oP c 15 (oV m c) ∗ xTok m c 15 ∗ oSemZ c 15 ∗ gRow c 7 (gV m c) ∗ bP m c ∗ owing c 11) -∗ Kt ⟨⟩))
      ⊢ runs c (onBufs k0_part20 c) Kt := by
  iintro ⟨#Hlev, ⟨Ho14, Hg6, Ho15, Hg7, Hb, %W, HO⟩, Hk⟩
  dsimp only [runs, onBufs]
  sl_unfold [k0_part20]
  have hmw := mayWait_low (F := F) c
  sl_exec
  ihave Hg6 := (show gRow c 6 (part20.sl.Hg6_w1 m c f) ⊢ gRow c 6 (gV m c) from grow_stored m c 6 f) $$ Hg6
  ihave Hg7 := (show gRow c 7 (part20.sl.Hg7_w2 m c f) ⊢ gRow c 7 (gV m c) from grow_stored m c 7 f) $$ Hg7
  sl_step
  iapply Hk
  iframe
  iexists _; iexact HO

end Cert.KernelIdeal.Pf

end
-- ==== Proof.Ideal.Finish.lean ====
/-
  Parts 21 to 29 of the kernel and its last operations: every piece's send and receive semaphore is waited for, and what
  the peer sent is added, block by block, to the device's own product in the result window.
-/
module

public import proofs.«01_k».proof.Proof.Ideal.Pieces

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

variable (c : Dev nD)

/-- Nothing is owed any more. -/
abbrev free (c : Dev nD) : sProp 𝕄 := iprop(∃ W, owes (c : Thread nD τ) (0 : CellTallies nD τ sig Unit) W)

/-- No element of a buffer: what the second half of a piece's delivery amounts to. -/
abbrev nil (c : Dev nD) : sProp 𝕄 := ((c : Thread nD τ).loc cc0_scratch4) ↦[∅]{fullShare} rV m c

/-! ## The rights to wait, by column piece and by block of rows -/

abbrev colSem (j : Fin 4) : DmaSem sig := ⟨37 + j.val, by have := j.isLt; show _ < 45; omega⟩
abbrev colSem' (j : Fin 4) : DmaSem sig := ⟨41 + j.val, by have := j.isLt; show _ < 45; omega⟩
abbrev rowSem (s : Fin 8) : DmaSem sig := ⟨21 + s.val, by have := s.isLt; show _ < 45; omega⟩
abbrev rowSem' (s : Fin 8) : DmaSem sig := ⟨29 + s.val, by have := s.isLt; show _ < 45; omega⟩

abbrev colK (j : Fin 4) : Fin 11 := ⟨j.val, by have := j.isLt; omega⟩
abbrev rowK (s : Fin 8) : Fin 11 := ⟨s.val + 3, by have := s.isLt; omega⟩

abbrev colS (j : Fin 4) : sProp 𝕄 := Transfers.Flight countersEmb (c : Thread nD τ) (.dma (colSem j)) () 4096 iprop(sP c (colK j) (sV m c) ∗ nil m c)
abbrev colR' (j : Fin 4) : sProp 𝕄 := Transfers.Flight countersEmb (c : Thread nD τ) (.dma (colSem' j)) () 4096 iprop(rP c (colK j) (rV m c) ∗ nil m c)
abbrev rowS (s : Fin 8) : sProp 𝕄 := Transfers.Flight countersEmb (c : Thread nD τ) (.dma (rowSem s)) () 16384 iprop(sP c (rowK s) (sV m c) ∗ nil m c)
abbrev rowR' (s : Fin 8) : sProp 𝕄 := Transfers.Flight countersEmb (c : Thread nD τ) (.dma (rowSem' s)) () 16384 iprop(rRow c s (rV m c) ∗ nil m c)

/-- The semaphores after their waits. -/
abbrev colSZ (j : Fin 4) : sProp 𝕄 := semVal ((c : Thread nD τ), .dma (colSem j)) 0
abbrev colRZ (j : Fin 4) : sProp 𝕄 := semVal ((c : Thread nD τ), .dma (colSem' j)) 0
abbrev rowSZ (s : Fin 8) : sProp 𝕄 := semVal ((c : Thread nD τ), .dma (rowSem s)) 0
abbrev rowRZ (s : Fin 8) : sProp 𝕄 := semVal ((c : Thread nD τ), .dma (rowSem' s)) 0

theorem amt_col (j : Fin 4) : amt (colK j) = 4096 := by revert j; decide +kernel
theorem amt_row (s : Fin 8) (hs : 1 ≤ s.val) : amt (rowK s) = 16384 := by revert s; decide +kernel
theorem sendS_col (j : Fin 4) : sendS (colK j) = colSem j := by revert j; decide
theorem recvS_col (j : Fin 4) : recvS (colK j) = colSem' j := by revert j; decide
theorem sendS_row (s : Fin 8) (hs : 1 ≤ s.val) : sendS (rowK s) = rowSem s := by revert s; decide
theorem recvS_row (s : Fin 8) (hs : 1 ≤ s.val) : recvS (rowK s) = rowSem' s := by revert s; decide

theorem nil_emp : (nil m c : sProp 𝕄) = iprop(emp) := pointsTo_empty

theorem sFl_col (j : Fin 4) : (sFl m c (colK j) : sProp 𝕄) = colS m c j := by
  rw [sFl, sendS_col, amt_col, colS, nil_emp]
theorem rFl_col (j : Fin 4) : (rFl m c (colK j) : sProp 𝕄) = colR' m c j := by
  rw [rFl, recvS_col, amt_col, colR', nil_emp]
theorem sFl_row (s : Fin 8) (hs : 1 ≤ s.val) : (sFl m c (rowK s) : sProp 𝕄) = rowS m c s := by
  rw [sFl, sendS_row s hs, amt_row s hs, rowS, nil_emp]
theorem rFl_row (s : Fin 8) (hs : 1 ≤ s.val) : (rFl m c (rowK s) : sProp 𝕄) = rowR' m c s := by
  rw [rFl, recvS_row s hs, amt_row s hs, rowR', nil_emp, rRow, rP, View.set_slice_whole, pset_row s hs]

/-- The four column pieces of the first received block of rows are the block. -/
theorem rrow_join :
    iprop(rP c (colK 0) (rV m c) ∗ rP c (colK 1) (rV m c) ∗ rP c (colK 2) (rV m c) ∗ rP c (colK 3) (rV m c)) ⊢ (rRow c 0 (rV m c) : sProp 𝕄) := by
  have key := Entails.of_eq (pointsTo_biUnion (Ix := Unit) (Lvl := ℕ) (U := UU) (Val := Elt F) (Name := ℕ) (T := Fin 4) (q := fullShare) (ℓ := (c : Thread nD τ).loc cc0_scratch4) (nD := nD) (τ := τ) (sig := sig) (f := rV m c)
    (Finset.univ : Finset (Fin 4)) (fun j => pset (colK j))
    (fun t _ t' _ h => pset_disjoint (Finset.mem_coe.mpr (Finset.mem_univ _)) (Finset.mem_coe.mpr (Finset.mem_univ _))
      (fun e => h (Fin.ext (by simpa using congrArg Fin.val e))))).symm
  have cov : (Finset.univ : Finset (Fin 4)).biUnion (fun j => pset (colK j)) = (rR 0).view.set := by
    rw [View.set_slice_whole]
    ext i
    have b2 : (i 2).val < 2048 := (i 2).isLt
    rw [Finset.mem_biUnion, mem_rowR]
    constructor
    · rintro ⟨j, -, hj⟩
      rw [← pset_col, mem_colR] at hj
      show 4 * (i 0).val + (i 1).val / 128 = 0; omega
    · intro h
      have h : 4 * (i 0).val + (i 1).val / 128 = 0 := h
      refine ⟨⟨(i 2).val / 512, by omega⟩, Finset.mem_univ _, ?_⟩
      rw [← pset_col, mem_colR]
      refine ⟨?_, ?_, ?_, ?_⟩ <;> dsimp only <;> omega
  rw [cov, bigSep_univ_eq_bigSepL [(0 : Fin 4), 1, 2, 3] (by decide) (by decide)] at key
  simp only [BI.bigSepL_cons, BI.bigSepL_nil] at key
  refine BIBase.Entails.trans (?_ : _ ⊢ iprop(rP c (colK 0) (rV m c) ∗ rP c (colK 1) (rV m c) ∗ rP c (colK 2) (rV m c) ∗ rP c (colK 3) (rV m c) ∗ emp)) key
  iintro ⟨H0, H1, H2, H3⟩
  iframe

theorem part21 (v2 v6 : BitVec 32) (Kt : (Σ' (_ : BitVec 32), BitVec 32) → sProp 𝕄) :
    iprop((colS m c 0 ∗ colR' m c 0 ∗ colS m c 1 ∗ free c)
        ∗ (∀ r, (sP c (colK 0) (sV m c) ∗ colSZ c 0 ∗ rP c (colK 0) (rV m c) ∗ colRZ c 0 ∗ sP c (colK 1) (sV m c) ∗ colSZ c 1 ∗ free c) -∗ Kt r))
      ⊢ runs c (onBufs k0_part21 v2 v6) Kt := by
  iintro ⟨⟨Hs0, Hr0, Hs1, %W, HO⟩, Hk⟩
  dsimp only [runs, onBufs]
  sl_unfold [k0_part21]
  sl_exec
  sl_step
  iapply Hk $$ %_
  iframe
  iexists _; iexact HO

theorem part22 (v2 v6 v583 q : BitVec 32) (Kt : PUnit → sProp 𝕄) :
    iprop((colR' m c 1 ∗ colS m c 2 ∗ colR' m c 2 ∗ free c)
        ∗ ((rP c (colK 1) (rV m c) ∗ colRZ c 1 ∗ sP c (colK 2) (sV m c) ∗ colSZ c 2 ∗ rP c (colK 2) (rV m c) ∗ colRZ c 2 ∗ free c) -∗ Kt ⟨⟩))
      ⊢ runs c (onBufs k0_part22 v2 v6 v583 q) Kt := by
  iintro ⟨⟨Hr1, Hs2, Hr2, %W, HO⟩, Hk⟩
  dsimp only [runs, onBufs]
  sl_unfold [k0_part22]
  sl_exec
  sl_step
  iapply Hk
  iframe
  iexists _; iexact HO

theorem part23 (v2 v6 : BitVec 32) (Kt : PUnit → sProp 𝕄) :
    iprop((colS m c 3 ∗ colR' m c 3 ∗ rP c (colK 0) (rV m c) ∗ rP c (colK 1) (rV m c) ∗ rP c (colK 2) (rV m c) ∗ gRow c 0 (gV m c) ∗ free c)
        ∗ ((sP c (colK 3) (sV m c) ∗ colSZ c 3 ∗ colRZ c 3 ∗ rRow c 0 (rV m c) ∗ gRow c 0 (outV m c) ∗ free c) -∗ Kt ⟨⟩))
      ⊢ runs c (onBufs k0_part23 v2 v6) Kt := by
  iintro ⟨⟨Hs3, Hr3, Hp0, Hp1, Hp2, Hg0, %W, HO⟩, Hk⟩
  dsimp only [runs, onBufs]
  sl_unfold [k0_part23]
  sl_exec
  ihave Hrow := (rrow_join m c) $$ [Hp0 Hp1 Hp2 Hr3_dst]
  · iframe
  sl_exec
  ihave Hg0 := (show gRow c 0 (part23.sl.Hg0_w1 m c) ⊢ gRow c 0 (outV m c) from out_stored m c 0) $$ Hg0
  sl_step
  iapply Hk
  iframe
  iexists _; iexact HO

theorem part24 (v2 v6 : BitVec 32) (Kt : PUnit → sProp 𝕄) :
    iprop((rowS m c 1 ∗ rowR' m c 1 ∗ gRow c 1 (gV m c) ∗ free c)
        ∗ ((sP c (rowK 1) (sV m c) ∗ rowSZ c 1 ∗ rRow c 1 (rV m c) ∗ rowRZ c 1 ∗ gRow c 1 (outV m c) ∗ free c) -∗ Kt ⟨⟩))
      ⊢ runs c (onBufs k0_part24 v2 v6) Kt := by
  iintro ⟨⟨Hs1, Hr1, Hg1, %W, HO⟩, Hk⟩
  dsimp only [runs, onBufs]
  sl_unfold [k0_part24]
  sl_exec
  ihave Hg1 := (show gRow c 1 (part24.sl.Hg1_w1 m c) ⊢ gRow c 1 (outV m c) from out_stored m c 1) $$ Hg1
  sl_step
  iapply Hk
  iframe
  iexists _; iexact HO

theorem part25 (v2 v6 : BitVec 32) (Kt : PUnit → sProp 𝕄) :
    iprop((rowS m c 2 ∗ rowR' m c 2 ∗ gRow c 2 (gV m c) ∗ rowS m c 3 ∗ free c)
        ∗ ((sP c (rowK 2) (sV m c) ∗ rowSZ c 2 ∗ rRow c 2 (rV m c) ∗ rowRZ c 2 ∗ gRow c 2 (outV m c) ∗ sP c (rowK 3) (sV m c) ∗ rowSZ c 3 ∗ free c) -∗ Kt ⟨⟩))
      ⊢ runs c (onBufs k0_part25 v2 v6) Kt := by
  iintro ⟨⟨Hs2, Hr2, Hg2, Hs3, %W, HO⟩, Hk⟩
  dsimp only [runs, onBufs]
  sl_unfold [k0_part25]
  sl_exec
  ihave Hg2 := (show gRow c 2 (part25.sl.Hg2_w1 m c) ⊢ gRow c 2 (outV m c) from out_stored m c 2) $$ Hg2
  sl_step
  iapply Hk
  iframe
  iexists _; iexact HO

theorem part26 (v2 v6 : BitVec 32) (Kt : PUnit → sProp 𝕄) :
    iprop((rowR' m c 3 ∗ gRow c 3 (gV m c) ∗ rowS m c 4 ∗ free c)
        ∗ ((rRow c 3 (rV m c) ∗ rowRZ c 3 ∗ gRow c 3 (outV m c) ∗ sP c (rowK 4) (sV m c) ∗ rowSZ c 4 ∗ free c) -∗ Kt ⟨⟩))
      ⊢ runs c (onBufs k0_part26 v2 v6) Kt := by
  iintro ⟨⟨Hr3, Hg3, Hs4, %W, HO⟩, Hk⟩
  dsimp only [runs, onBufs]
  sl_unfold [k0_part26]
  sl_exec
  ihave Hg3 := (show gRow c 3 (part26.sl.Hg3_w1 m c) ⊢ gRow c 3 (outV m c) from out_stored m c 3) $$ Hg3
  sl_step
  iapply Hk
  iframe
  iexists _; iexact HO

theorem part27 (v2 v6 : BitVec 32) (Kt : BitVec 32 → sProp 𝕄) :
    iprop((rowR' m c 4 ∗ gRow c 4 (gV m c) ∗ rowS m c 5 ∗ free c)
        ∗ (∀ r, (rRow c 4 (rV m c) ∗ rowRZ c 4 ∗ gRow c 4 (outV m c) ∗ sP c (rowK 5) (sV m c) ∗ rowSZ c 5 ∗ free c) -∗ Kt r))
      ⊢ runs c (onBufs k0_part27 v2 v6) Kt := by
  iintro ⟨⟨Hr4, Hg4, Hs5, %W, HO⟩, Hk⟩
  dsimp only [runs, onBufs]
  sl_unfold [k0_part27]
  sl_exec
  ihave Hg4 := (show gRow c 4 (part27.sl.Hg4_w1 m c) ⊢ gRow c 4 (outV m c) from out_stored m c 4) $$ Hg4
  sl_step
  iapply Hk $$ %_
  iframe
  iexists _; iexact HO

theorem part28 (v2 v6 v740 : BitVec 32) (Kt : (Σ' (_ : BitVec 32), BitVec 32) → sProp 𝕄) :
    iprop((rowR' m c 5 ∗ gRow c 5 (gV m c) ∗ rowS m c 6 ∗ free c)
        ∗ (∀ r, (rRow c 5 (rV m c) ∗ rowRZ c 5 ∗ gRow c 5 (outV m c) ∗ sP c (rowK 6) (sV m c) ∗ rowSZ c 6 ∗ free c) -∗ Kt r))
      ⊢ runs c (onBufs k0_part28 v2 v6 v740) Kt := by
  iintro ⟨⟨Hr5, Hg5, Hs6, %W, HO⟩, Hk⟩
  dsimp only [runs, onBufs]
  sl_unfold [k0_part28]
  sl_exec
  ihave Hg5 := (show gRow c 5 (part28.sl.Hg5_w1 m c) ⊢ gRow c 5 (outV m c) from out_stored m c 5) $$ Hg5
  sl_step
  iapply Hk $$ %_
  iframe
  iexists _; iexact HO

theorem part29 (v2 v6 v766 q : BitVec 32) (Kt : PUnit → sProp 𝕄) :
    iprop((rowR' m c 6 ∗ gRow c 6 (gV m c) ∗ rowS m c 7 ∗ free c)
        ∗ ((rRow c 6 (rV m c) ∗ rowRZ c 6 ∗ gRow c 6 (outV m c) ∗ sP c (rowK 7) (sV m c) ∗ rowSZ c 7 ∗ free c) -∗ Kt ⟨⟩))
      ⊢ runs c (onBufs k0_part29 v2 v6 v766 q) Kt := by
  iintro ⟨⟨Hr6, Hg6, Hs7, %W, HO⟩, Hk⟩
  dsimp only [runs, onBufs]
  sl_unfold [k0_part29]
  sl_exec
  ihave Hg6 := (show gRow c 6 (part29.sl.Hg6_w1 m c) ⊢ gRow c 6 (outV m c) from out_stored m c 6) $$ Hg6
  sl_step
  iapply Hk
  iframe
  iexists _; iexact HO

end Cert.KernelIdeal.Pf

end
-- ==== Proof.Ideal.Body.lean ====
/-
  The kernel's body: its twenty-nine parts and its last block of rows, run one after the other on one device, from the
  pieces of its buffers and its tokens to the same pieces with what the kernel computed.
-/
module

public import proofs.«01_k».proof.Proof.Ideal.Stage
public import proofs.«01_k».proof.Proof.Ideal.Columns
public import proofs.«01_k».proof.Proof.Ideal.Rows
public import proofs.«01_k».proof.Proof.Ideal.Own
public import proofs.«01_k».proof.Proof.Ideal.Finish

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

variable (K : GSem nD τ sig → ℕ) (c : Dev nD)

theorem bigSep_4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ
theorem bigSep_16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- What a device holds of piece `k` for sending it, before it has met its peer. -/
def sendIn (c : Dev nD) (k : Fin 11) : sProp 𝕄 :=
  iprop(dutyTok ER (recvCell (pr c) k) 0 () ∗ dutyTok ER (sendCell c k) 0 () ∗ reached ER (sendCell c k) 0 ∗ atPos ER (sendCell c k) 0 ∅ 0)
/-- What it holds of piece `k` for receiving it. -/
def recvIn (c : Dev nD) (k : Fin 11) : sProp 𝕄 :=
  iprop(atPos ER (recvCell c k) 0 ∅ 0 ∗ cred (tallyAt (recvCell c k) () (amt k)))

theorem toSend_one (k : Fin 11) : iprop(sendIn (F := F) c k ∗ (∃ f, rP (pr c) k f) ∗ reached ER (recvCell (pr c) k) 0) ⊢ (toSend (F := F) c k : sProp 𝕄) := by
  unfold sendIn toSend
  iintro ⟨⟨H1, H2, H3, H4⟩, H5, H6⟩
  iframe

/-- The meeting completes every piece's right to be sent. -/
theorem toSend_all : iprop(bigSep Finset.univ (sendIn (F := F) c) ∗ barPay c) ⊢ (bigSep Finset.univ (toSend (F := F) c) : sProp 𝕄) := by
  unfold barPay
  refine (Entails.of_eq (bigSep_sep' (s := Finset.univ) (Φ := sendIn (F := F) c)
    (Ψ := fun k : Fin 11 => iprop((∃ f, rP (pr c) k f) ∗ reached ER (recvCell (pr c) k) 0))).symm).trans (bigSep_mono fun k _ => toSend_one c k)

theorem recv_col (j : Fin 4) : iprop(records m K ∗ recvIn c (colK j)) ⊢ (colR' m c j : sProp 𝕄) := by
  rw [← rFl_col]; unfold recvIn
  iintro ⟨#HK, Ha, Hc⟩
  iapply (recv_flight m (K (recvCell c (colK j))) c (colK j))
  isplitr; · iapply (records_recv m K c (colK j)); iexact HK
  iframe
theorem recv_row (s : Fin 8) (hs : 1 ≤ s.val) : iprop(records m K ∗ recvIn c (rowK s)) ⊢ (rowR' m c s : sProp 𝕄) := by
  rw [← rFl_row m c s hs]; unfold recvIn
  iintro ⟨#HK, Ha, Hc⟩
  iapply (recv_flight m (K (recvCell c (rowK s))) c (rowK s))
  isplitr; · iapply (records_recv m K c (rowK s)); iexact HK
  iframe

theorem mem_wR (j : Fin 4) (i : S1024x2048.Idx) : i ∈ (wR j).set ↔ (i 1).val / 512 = j.val := by
  have b0 : (i 0).val < 1024 := (i 0).isLt
  rw [Rect.mem_set_unit]
  constructor
  · intro h
    have h1 := h 1
    simp at h1
    omega
  · rintro h a
    fin_cases a <;> simp <;> omega

theorem wR_disjoint : Set.PairwiseDisjoint (↑(Finset.univ : Finset (Fin 4))) (fun j : Fin 4 => (wR j).set) := by
  intro j _ j' _ h
  refine Finset.disjoint_left.mpr fun i hi hi' => h (Fin.ext ?_)
  rw [mem_wR] at hi hi'; omega

theorem wR_cover : (Finset.univ : Finset (Fin 4)).biUnion (fun j => (wR j).set) = Finset.univ := by
  ext i
  have b1 : (i 1).val < 2048 := (i 1).isLt
  simp only [Finset.mem_biUnion, Finset.mem_univ, true_and, iff_true]
  exact ⟨⟨(i 1).val / 512, by omega⟩, (mem_wR _ i).mpr rfl⟩

/-- The rounded column pieces are the whole rounded half of `Wo`. -/
theorem b_join : iprop(bC c 0 (wV m c) ∗ bC c 1 (wV m c) ∗ bC c 2 (wV m c) ∗ bC c 3 (wV m c)) ⊢ (bP m c : sProp 𝕄) := by
  have key := Entails.of_eq (pointsTo_biUnion (Ix := Unit) (Lvl := ℕ) (U := UU) (Val := Elt F) (Name := ℕ) (T := Fin 4) (q := fullShare)
    (ℓ := (c : Thread nD τ).loc cc0_scratch2) (nD := nD) (τ := τ) (sig := sig) (f := wV m c) (Finset.univ : Finset (Fin 4)) (fun j => (wR j).set) wR_disjoint).symm
  rw [wR_cover, bigSep_4] at key
  have e (j : Fin 4) : (bC c j (wV m c) : sProp 𝕄) = ((c : Thread nD τ).loc cc0_scratch2) ↦[(wR j).set]{fullShare} wV m c := by
    rw [bC, View.set_slice_whole]
  rw [e, e, e, e]; exact key

/-- Every piece a device holds when it enters the body. -/
def bodyPre (f5 : Vec F S1024x2048 .bf16) (f6 : Vec F S2x512x2048 .bf16) (f2 : Vec F S2x512x2048 .f32) : sProp 𝕄 :=
  iprop(bigSep Finset.univ (wIn m c) ∗ bigSep Finset.univ (oIn m c) ∗ toMeet c
    ∗ bigSep Finset.univ (fun j : Fin 4 => bC c j f5) ∗ bigSep Finset.univ (fun j : Fin 4 => sCol c j f6)
    ∗ (sRow c 1 f6 ∗ sRow c 2 f6 ∗ sRow c 3 f6 ∗ sRow c 4 f6 ∗ sRow c 5 f6 ∗ sRow c 6 f6 ∗ sRow c 7 f6)
    ∗ bigSep Finset.univ (fun s : Fin 8 => gRow c s f2)
    ∗ bigSep Finset.univ (sendIn (F := F) c) ∗ bigSep Finset.univ (recvIn (F := F) c))

/-- Every piece it holds when it leaves it. -/
def bodyPost : sProp 𝕄 :=
  iprop(bigSep Finset.univ (fun j : Fin 4 => wP c j (aV m c)) ∗ bigSep Finset.univ (fun j : Fin 4 => aP c j (aV m c)) ∗ bigSep Finset.univ (fun j : Fin 4 => wSemZ c j)
    ∗ bigSep Finset.univ (fun s : Fin 16 => oP c s (oV m c)) ∗ bigSep Finset.univ (fun s : Fin 16 => xTok m c s) ∗ bigSep Finset.univ (fun s : Fin 16 => oSemZ c s)
    ∗ bP m c ∗ bigSep Finset.univ (fun k : Fin 11 => sP c k (sV m c))
    ∗ bigSep Finset.univ (fun j : Fin 4 => colSZ c j) ∗ bigSep Finset.univ (fun j : Fin 4 => colRZ c j)
    ∗ (rowSZ c 1 ∗ rowSZ c 2 ∗ rowSZ c 3 ∗ rowSZ c 4 ∗ rowSZ c 5 ∗ rowSZ c 6 ∗ rowSZ c 7)
    ∗ (rowRZ c 1 ∗ rowRZ c 2 ∗ rowRZ c 3 ∗ rowRZ c 4 ∗ rowRZ c 5 ∗ rowRZ c 6 ∗ rowRZ c 7)
    ∗ bigSep Finset.univ (fun s : Fin 8 => rRow c s (rV m c)) ∗ bigSep Finset.univ (fun s : Fin 8 => gRow c s (outV m c))
    ∗ atPos ER (barCell c) (0 + 1) ∅ 0 ∗ free c)

set_option maxHeartbeats 4000000 in
/-- The body, whole. -/
theorem body_run (f5 : Vec F S1024x2048 .bf16) (f6 : Vec F S2x512x2048 .bf16) (f2 : Vec F S2x512x2048 .f32) (Kt : PUnit → sProp 𝕄) :
    iprop(Ctx m K ∗ bodyPre m c f5 f6 f2 ∗ (bodyPost m c -∗ Kt ⟨⟩))
      ⊢ runs c (onBufs cc0_body) Kt := by
  dsimp only [runs, onBufs]
  rw [cc0_body_eq_skeleton]
  unfold bodyPre bodyPost cc0_body_skel
  simp only [bigSep_4, bigSep_8, bigSep_11, bigSep_16]
  iintro ⟨#HC, ⟨⟨HW0, HW1, HW2, HW3⟩, ⟨HI0, HI1, HI2, HI3, HI4, HI5, HI6, HI7, HI8, HI9, HI10, HI11, HI12, HI13, HI14, HI15⟩, HM, ⟨Hb0, Hb1, Hb2, Hb3⟩, ⟨Hsc0, Hsc1, Hsc2, Hsc3⟩, ⟨Hsr1, Hsr2, Hsr3, Hsr4, Hsr5, Hsr6, Hsr7⟩, ⟨Hg0, Hg1, Hg2, Hg3, Hg4, Hg5, Hg6, Hg7⟩, ⟨HS0, HS1, HS2, HS3, HS4, HS5, HS6, HS7, HS8, HS9, HS10⟩, ⟨HR0, HR1, HR2, HR3, HR4, HR5, HR6, HR7, HR8, HR9, HR10⟩⟩, Hk⟩
  ihave #HK := (show Ctx m K ⊢ records m K from sep_elim_left) $$ HC
  ihave #Hlev := (show Ctx m K ⊢ levAts L lv from sep_elim_right) $$ HC
  rw [wp_bind]
  iapply (part1 m c _)
  isplitl [HW0 HW1 HW2 HW3]; · iframe
  iintro %v2 %v6 %v7 %v9 %q ⟨Hwf0, Hwf1, Hwf2, Hwf3⟩
  try dsimp only
  rw [wp_bind]
  iapply (part2 m c _ _ _)
  isplitl [HI0 HI1 HI2 HI3]; · iframe
  iintro %q2 ⟨Hof0, Hof1, Hof2, Hof3⟩
  try dsimp only
  rw [wp_bind]
  iapply (part3 m c _ _ _)
  isplitl [HI4 HI5 HI6 HI7]; · iframe
  iintro %q3 ⟨Hof4, Hof5, Hof6, Hof7⟩
  try dsimp only
  rw [wp_bind]
  iapply (part4 m c _ _ _)
  isplitl [HI8 HI9 HI10 HI11]; · iframe
  iintro %q4 ⟨Hof8, Hof9, Hof10, Hof11⟩
  try dsimp only
  rw [wp_bind]
  iapply (part5 m c _ _ _)
  isplitl [HI12 HI13 HI14 HI15]; · iframe
  iintro ⟨Hof12, Hof13, Hof14, Hof15⟩
  try dsimp only
  rw [wp_bind]
  iapply (part6 m K c f5 _ _ _)
  isplitr; · iexact HC
  isplitl [HM Hof0 Hwf0 Hb0]; · iframe
  iintro ⟨Hpay, Hbar, Ho0, Hx0, Hoz0, Hw0, Ha0, Hwz0, Hb0, HO⟩
  try dsimp only
  ihave HT := (toSend_all (F := F) c) $$ [Hpay HS0 HS1 HS2 HS3 HS4 HS5 HS6 HS7 HS8 HS9 HS10]
  · simp only [bigSep_11]; iframe
  ihave HT' := (Entails.of_eq (bigSep_11 (F := F) (toSend (F := F) c))) $$ HT
  icases HT' with ⟨HT0, HT1, HT2, HT3, HT4, HT5, HT6, HT7, HT8, HT9, HT10⟩
  rw [wp_bind]
  iapply (part7 m K c f5 f6 _ _ _)
  isplitr; · iexact HC
  isplitl [Hsc0 HT0 Hwf1 Hb1 Hsc1 HO]; · iframe
  iintro ⟨Hf0, Hw1, Ha1, Hwz1, Hb1, Hsc1, HO⟩
  try dsimp only
  rw [wp_bind]
  iapply (part8 m K c f5 f6 _ _ _)
  isplitr; · iexact HC
  isplitl [Hsc1 HT1 Hwf2 Hb2 Hsc2 HO]; · iframe
  iintro ⟨Hf1, Hw2, Ha2, Hwz2, Hb2, Hsp2, HO⟩
  try dsimp only
  rw [wp_bind]
  iapply (part9 m K c f5 f6 _ _ _)
  isplitr; · iexact HC
  isplitl [Hsp2 HT2 Hwf3 Hb3 Hsc3 HO]; · iframe
  iintro %r9 ⟨Hf2, Hw3, Ha3, Hwz3, Hb3, Hsp3, HO⟩
  try dsimp only
  ihave Hb := (b_join m c) $$ [Hb0 Hb1 Hb2 Hb3]
  · iframe
  rw [wp_bind]
  iapply (part10 m K c f6 _ _ _ _)
  isplitr; · iexact HC
  isplitl [HT3 Hsp3 Hof1 Hb Hsr1 HO]; · iframe
  iintro %r10 ⟨Hf3, Ho1, Hx1, Hoz1, Hb, Hsp4, HO⟩
  try dsimp only
  rw [wp_bind]
  iapply (part11 m K c f6 _ _ _ _ _)
  isplitr; · iexact HC
  isplitl [HT4 Hsp4 Hof2 Hb Hsr2 HO]; · iframe
  iintro ⟨Hf4, Ho2, Hx2, Hoz2, Hb, Hsp5, HO⟩
  try dsimp only
  rw [wp_bind]
  iapply (part12 m K c f6 _ _ _)
  isplitr; · iexact HC
  isplitl [HT5 Hsp5 Hof3 Hb Hsr3 HO]; · iframe
  iintro ⟨Hf5, Ho3, Hx3, Hoz3, Hb, Hsp6, HO⟩
  try dsimp only
  rw [wp_bind]
  iapply (part13 m K c f6 _ _ _)
  isplitr; · iexact HC
  isplitl [HT6 Hsp6 Hof4 Hb Hsr4 HO]; · iframe
  iintro ⟨Hf6, Ho4, Hx4, Hoz4, Hb, Hsp7, HO⟩
  try dsimp only
  rw [wp_bind]
  iapply (part14 m K c f6 _ _ _)
  isplitr; · iexact HC
  isplitl [HT7 Hsp7 Hof5 Hb Hsr5 HT8 HO]; · iframe
  iintro ⟨Hf7, Ho5, Hx5, Hoz5, Hb, Hf8, HO⟩
  try dsimp only
  rw [wp_bind]
  iapply (part15 m K c f6 _ _ _)
  isplitr; · iexact HC
  isplitl [Hof6 Hb Hsr6 HT9 HO]; · iframe
  iintro ⟨Ho6, Hx6, Hoz6, Hb, Hf9, HO⟩
  try dsimp only
  rw [wp_bind]
  iapply (part16 m K c f6 _ _ _)
  isplitr; · iexact HC
  isplitl [Hof7 Hb Hsr7 HT10 HO]; · iframe
  iintro ⟨Ho7, Hx7, Hoz7, Hb, Hf10, HO⟩
  try dsimp only
  rw [wp_bind]
  iapply (part17 m c f2 _)
  isplitr; · iexact Hlev
  isplitl [Hof8 Hg0 Hof9 Hg1 Hb HO]; · iframe
  iintro ⟨Ho8, Hx8, Hoz8, Hg0, Ho9, Hx9, Hoz9, Hg1, Hb, HO⟩
  try dsimp only
  rw [wp_bind]
  iapply (part18 m c f2 _)
  isplitr; · iexact Hlev
  isplitl [Hof10 Hg2 Hof11 Hg3 Hb HO]; · iframe
  iintro ⟨Ho10, Hx10, Hoz10, Hg2, Ho11, Hx11, Hoz11, Hg3, Hb, HO⟩
  try dsimp only
  rw [wp_bind]
  iapply (part19 m c f2 _)
  isplitr; · iexact Hlev
  isplitl [Hof12 Hg4 Hof13 Hg5 Hb HO]; · iframe
  iintro ⟨Ho12, Hx12, Hoz12, Hg4, Ho13, Hx13, Hoz13, Hg5, Hb, HO⟩
  try dsimp only
  rw [wp_bind]
  iapply (part20 m c f2 _)
  isplitr; · iexact Hlev
  isplitl [Hof14 Hg6 Hof15 Hg7 Hb HO]; · iframe
  iintro ⟨Ho14, Hx14, Hoz14, Hg6, Ho15, Hx15, Hoz15, Hg7, Hb, HO⟩
  try dsimp only
  ihave HO := (show owing (F := F) c 11 ⊢ free c from by rw [owing, owed_done]) $$ HO
  ihave Hf0 := (show sFl m c 0 ⊢ colS m c 0 from Entails.of_eq (sFl_col m c 0)) $$ Hf0
  ihave HR0 := (show iprop(records m K ∗ recvIn c 0) ⊢ colR' m c 0 from recv_col m K c 0) $$ [HR0]
  · isplitr; · iexact HK
    iexact HR0
  ihave Hf1 := (show sFl m c 1 ⊢ colS m c 1 from Entails.of_eq (sFl_col m c 1)) $$ Hf1
  ihave HR1 := (show iprop(records m K ∗ recvIn c 1) ⊢ colR' m c 1 from recv_col m K c 1) $$ [HR1]
  · isplitr; · iexact HK
    iexact HR1
  ihave Hf2 := (show sFl m c 2 ⊢ colS m c 2 from Entails.of_eq (sFl_col m c 2)) $$ Hf2
  ihave HR2 := (show iprop(records m K ∗ recvIn c 2) ⊢ colR' m c 2 from recv_col m K c 2) $$ [HR2]
  · isplitr; · iexact HK
    iexact HR2
  ihave Hf3 := (show sFl m c 3 ⊢ colS m c 3 from Entails.of_eq (sFl_col m c 3)) $$ Hf3
  ihave HR3 := (show iprop(records m K ∗ recvIn c 3) ⊢ colR' m c 3 from recv_col m K c 3) $$ [HR3]
  · isplitr; · iexact HK
    iexact HR3
  ihave Hf4 := (show sFl m c 4 ⊢ rowS m c 1 from Entails.of_eq (sFl_row m c 1 (by decide))) $$ Hf4
  ihave HR4 := (show iprop(records m K ∗ recvIn c 4) ⊢ rowR' m c 1 from recv_row m K c 1 (by decide)) $$ [HR4]
  · isplitr; · iexact HK
    iexact HR4
  ihave Hf5 := (show sFl m c 5 ⊢ rowS m c 2 from Entails.of_eq (sFl_row m c 2 (by decide))) $$ Hf5
  ihave HR5 := (show iprop(records m K ∗ recvIn c 5) ⊢ rowR' m c 2 from recv_row m K c 2 (by decide)) $$ [HR5]
  · isplitr; · iexact HK
    iexact HR5
  ihave Hf6 := (show sFl m c 6 ⊢ rowS m c 3 from Entails.of_eq (sFl_row m c 3 (by decide))) $$ Hf6
  ihave HR6 := (show iprop(records m K ∗ recvIn c 6) ⊢ rowR' m c 3 from recv_row m K c 3 (by decide)) $$ [HR6]
  · isplitr; · iexact HK
    iexact HR6
  ihave Hf7 := (show sFl m c 7 ⊢ rowS m c 4 from Entails.of_eq (sFl_row m c 4 (by decide))) $$ Hf7
  ihave HR7 := (show iprop(records m K ∗ recvIn c 7) ⊢ rowR' m c 4 from recv_row m K c 4 (by decide)) $$ [HR7]
  · isplitr; · iexact HK
    iexact HR7
  ihave Hf8 := (show sFl m c 8 ⊢ rowS m c 5 from Entails.of_eq (sFl_row m c 5 (by decide))) $$ Hf8
  ihave HR8 := (show iprop(records m K ∗ recvIn c 8) ⊢ rowR' m c 5 from recv_row m K c 5 (by decide)) $$ [HR8]
  · isplitr; · iexact HK
    iexact HR8
  ihave Hf9 := (show sFl m c 9 ⊢ rowS m c 6 from Entails.of_eq (sFl_row m c 6 (by decide))) $$ Hf9
  ihave HR9 := (show iprop(records m K ∗ recvIn c 9) ⊢ rowR' m c 6 from recv_row m K c 6 (by decide)) $$ [HR9]
  · isplitr; · iexact HK
    iexact HR9
  ihave Hf10 := (show sFl m c 10 ⊢ rowS m c 7 from Entails.of_eq (sFl_row m c 7 (by decide))) $$ Hf10
  ihave HR10 := (show iprop(records m K ∗ recvIn c 10) ⊢ rowR' m c 7 from recv_row m K c 7 (by decide)) $$ [HR10]
  · isplitr; · iexact HK
    iexact HR10
  rw [wp_bind]
  iapply (part21 m c _ _ _)
  isplitl [Hf0 HR0 Hf1 HO]; · iframe
  iintro %r21 ⟨Hs0, Hcz0, Hr0, Hcy0, Hs1, Hcz1, HO⟩
  try dsimp only
  rw [wp_bind]
  iapply (part22 m c _ _ _ _ _)
  isplitl [HR1 Hf2 HR2 HO]; · iframe
  iintro ⟨Hr1, Hcy1, Hs2, Hcz2, Hr2, Hcy2, HO⟩
  try dsimp only
  rw [wp_bind]
  iapply (part23 m c _ _ _)
  isplitl [Hf3 HR3 Hr0 Hr1 Hr2 Hg0 HO]; · iframe
  iintro ⟨Hs3, Hcz3, Hcy3, Hr0, Hg0, HO⟩
  try dsimp only
  rw [wp_bind]
  iapply (part24 m c _ _ _)
  isplitl [Hf4 HR4 Hg1 HO]; · iframe
  iintro ⟨Hs4, Hrz1, Hr1, Hry1, Hg1, HO⟩
  try dsimp only
  rw [wp_bind]
  iapply (part25 m c _ _ _)
  isplitl [Hf5 HR5 Hg2 Hf6 HO]; · iframe
  iintro ⟨Hs5, Hrz2, Hr2, Hry2, Hg2, Hs6, Hrz3, HO⟩
  try dsimp only
  rw [wp_bind]
  iapply (part26 m c _ _ _)
  isplitl [HR6 Hg3 Hf7 HO]; · iframe
  iintro ⟨Hr3, Hry3, Hg3, Hs7, Hrz4, HO⟩
  try dsimp only
  rw [wp_bind]
  iapply (part27 m c _ _ _)
  isplitl [HR7 Hg4 Hf8 HO]; · iframe
  iintro %r27 ⟨Hr4, Hry4, Hg4, Hs8, Hrz5, HO⟩
  try dsimp only
  rw [wp_bind]
  iapply (part28 m c _ _ _ _)
  isplitl [HR8 Hg5 Hf9 HO]; · iframe
  iintro %r28 ⟨Hr5, Hry5, Hg5, Hs9, Hrz6, HO⟩
  try dsimp only
  rw [wp_bind]
  iapply (part29 m c _ _ _ _ _)
  isplitl [HR9 Hg6 Hf10 HO]; · iframe
  iintro ⟨Hr6, Hry6, Hg6, Hs10, Hrz7, HO⟩
  try dsimp only
  ihave Hs0 := (show sP c (colK 0) (sV m c) ⊢ sP c 0 (sV m c) from .rfl) $$ Hs0
  ihave Hs1 := (show sP c (colK 1) (sV m c) ⊢ sP c 1 (sV m c) from .rfl) $$ Hs1
  ihave Hs2 := (show sP c (colK 2) (sV m c) ⊢ sP c 2 (sV m c) from .rfl) $$ Hs2
  ihave Hs3 := (show sP c (colK 3) (sV m c) ⊢ sP c 3 (sV m c) from .rfl) $$ Hs3
  ihave Hs4 := (show sP c (rowK 1) (sV m c) ⊢ sP c 4 (sV m c) from .rfl) $$ Hs4
  ihave Hs5 := (show sP c (rowK 2) (sV m c) ⊢ sP c 5 (sV m c) from .rfl) $$ Hs5
  ihave Hs6 := (show sP c (rowK 3) (sV m c) ⊢ sP c 6 (sV m c) from .rfl) $$ Hs6
  ihave Hs7 := (show sP c (rowK 4) (sV m c) ⊢ sP c 7 (sV m c) from .rfl) $$ Hs7
  ihave Hs8 := (show sP c (rowK 5) (sV m c) ⊢ sP c 8 (sV m c) from .rfl) $$ Hs8
  ihave Hs9 := (show sP c (rowK 6) (sV m c) ⊢ sP c 9 (sV m c) from .rfl) $$ Hs9
  ihave Hs10 := (show sP c (rowK 7) (sV m c) ⊢ sP c 10 (sV m c) from .rfl) $$ Hs10
  icases HO with ⟨%W, HO⟩
  sl_exec
  ihave Hg7 := (show gRow c 7 (body_run.sl.Hg7_w1 m c) ⊢ gRow c 7 (outV m c) from out_stored m c 7) $$ Hg7
  sl_step
  iapply Hk
  iframe
  iexists _; iexact HO

end Cert.KernelIdeal.Pf

end
-- ==== Proof.Ideal.Whole.lean ====
/-
  The buffers taken apart into the pieces that the body works on, and put together again.
-/
module

public import proofs.«01_k».proof.Proof.Ideal.Body

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

variable (c : Dev nD)

/-- A buffer is its pieces, where the pieces share no element and leave none out. -/
theorem pieces (ℓ : Loc nD τ sig) (f : Buf (Elt F) ℓ) {n : ℕ} (S : Fin n → Finset ℓ.2.ty.Idx) (hd : ∀ i j x, x ∈ S i → x ∈ S j → i = j)
    (hc : ∀ x, ∃ j, x ∈ S j) : (ℓ ↦{fullShare} f : sProp 𝕄) = bigSep Finset.univ fun j => ℓ ↦[S j]{fullShare} f := by
  have key := pointsTo_biUnion (Ix := Unit) (Lvl := ℕ) (U := UU) (Val := Elt F) (Name := ℕ) (T := Fin n) (q := fullShare)
    (ℓ := ℓ) (nD := nD) (τ := τ) (sig := sig) (f := f) (Finset.univ : Finset (Fin n)) S
    (fun i _ j _ h => Finset.disjoint_left.mpr fun x hi hj => h (hd i j x hi hj))
  rw [← key]
  congr 1
  ext x
  obtain ⟨j, hj⟩ := hc x
  simp only [Finset.mem_biUnion, Finset.mem_univ, true_and, true_iff]
  exact ⟨j, hj⟩

theorem mem_oR (s : Fin 16) (i : S16x128x1024.Idx) : i ∈ (oR s).set ↔ (i 0).val = s.val := by
  have b1 : (i 1).val < 128 := (i 1).isLt
  have b2 : (i 2).val < 1024 := (i 2).isLt
  rw [Rect.mem_set_unit]
  constructor
  · intro h
    have h0 := h 0
    simp at h0
    omega
  · rintro h a
    fin_cases a <;> simp <;> omega

theorem o_pieces (f : Vec F S16x128x1024 .f32) :
    (((c : Thread nD τ).loc cc0_scratch0) ↦{fullShare} f : sProp 𝕄) = bigSep Finset.univ fun s : Fin 16 => oP c s f :=
  (pieces ((c : Thread nD τ).loc cc0_scratch0) f (fun s : Fin 16 => (oR s).set)
    (fun s s' x h h' => Fin.ext (((mem_oR s x).mp h).symm.trans ((mem_oR s' x).mp h')))
    (fun x => ⟨x 0, (mem_oR _ x).mpr rfl⟩)).trans (bigSep_congr fun s _ => by rw [oP, View.set_slice_whole])

theorem cols_apart (j j' : Fin 4) (x : S1024x2048.Idx) (h : x ∈ (wR j).set) (h' : x ∈ (wR j').set) : j = j' :=
  Fin.ext (((mem_wR j x).mp h).symm.trans ((mem_wR j' x).mp h'))
theorem cols_all (x : S1024x2048.Idx) : ∃ j : Fin 4, x ∈ (wR j).set :=
  ⟨⟨(x 1).val / 512, by have b1 : (x 1).val < 2048 := (x 1).isLt; omega⟩, (mem_wR _ x).mpr rfl⟩

theorem w_pieces (f : Vec F S1024x2048 .f32) :
    (((c : Thread nD τ).loc cc0_scratch1) ↦{fullShare} f : sProp 𝕄) = bigSep Finset.univ fun j : Fin 4 => wP c j f :=
  (pieces ((c : Thread nD τ).loc cc0_scratch1) f (fun j : Fin 4 => (wR j).set) cols_apart cols_all).trans
    (bigSep_congr fun s _ => by rw [wP, View.set_slice_whole])
theorem a_pieces (f : Vec F S1024x2048 .f32) :
    (((c : Thread nD τ).loc main_arg1) ↦{fullShare} f : sProp 𝕄) = bigSep Finset.univ fun j : Fin 4 => aP c j f :=
  (pieces ((c : Thread nD τ).loc main_arg1) f (fun j : Fin 4 => (wR j).set) cols_apart cols_all).trans
    (bigSep_congr fun s _ => by rw [aP, View.set_slice_whole])
theorem b_pieces (f : Vec F S1024x2048 .bf16) :
    (((c : Thread nD τ).loc cc0_scratch2) ↦{fullShare} f : sProp 𝕄) = bigSep Finset.univ fun j : Fin 4 => bC c j f :=
  (pieces ((c : Thread nD τ).loc cc0_scratch2) f (fun j : Fin 4 => (wR j).set) cols_apart cols_all).trans
    (bigSep_congr fun s _ => by rw [bC, View.set_slice_whole])

theorem rows_apart (s s' : Fin 8) (x : S2x512x2048.Idx) (h : x ∈ (rowR s).set) (h' : x ∈ (rowR s').set) : s = s' :=
  Fin.ext (((mem_rowR s x).mp h).symm.trans ((mem_rowR s' x).mp h'))
theorem rows_all (x : S2x512x2048.Idx) : ∃ s : Fin 8, x ∈ (rowR s).set :=
  ⟨⟨4 * (x 0).val + (x 1).val / 128, by
    have b0 : (x 0).val < 2 := (x 0).isLt
    have b1 : (x 1).val < 512 := (x 1).isLt
    omega⟩, (mem_rowR _ x).mpr rfl⟩

theorem g_pieces (f : Vec F S2x512x2048 .f32) :
    (((c : Thread nD τ).loc cc0_stg0_0) ↦{fullShare} f : sProp 𝕄) = bigSep Finset.univ fun s : Fin 8 => gRow c s f :=
  (pieces ((c : Thread nD τ).loc cc0_stg0_0) f (fun s : Fin 8 => (rowR s).set) rows_apart rows_all).trans
    (bigSep_congr fun s _ => by rw [gRow, View.set_slice_whole])
theorem r_rows (f : Vec F S2x512x2048 .bf16) :
    (((c : Thread nD τ).loc cc0_scratch4) ↦{fullShare} f : sProp 𝕄) = bigSep Finset.univ fun s : Fin 8 => rRow c s f :=
  (pieces ((c : Thread nD τ).loc cc0_scratch4) f (fun s : Fin 8 => (rowR s).set) rows_apart rows_all).trans
    (bigSep_congr fun s _ => by rw [rRow, View.set_slice_whole])

theorem sent_apart (k k' : Fin 11) (x : S2x512x2048.Idx) (h : x ∈ pset k) (h' : x ∈ pset k') : k = k' :=
  by_contra fun hne => Finset.disjoint_left.mp (pset_disjoint (Finset.mem_coe.mpr (Finset.mem_univ k)) (Finset.mem_coe.mpr (Finset.mem_univ k')) hne) h h'
theorem sent_all (x : S2x512x2048.Idx) : ∃ k : Fin 11, x ∈ pset k := by
  have h : x ∈ (Finset.univ : Finset (Fin 11)).biUnion pset := by rw [pset_cover]; exact Finset.mem_univ x
  obtain ⟨k, -, hk⟩ := Finset.mem_biUnion.mp h
  exact ⟨k, hk⟩

theorem s_pieces (f : Vec F S2x512x2048 .bf16) :
    (((c : Thread nD τ).loc cc0_scratch3) ↦{fullShare} f : sProp 𝕄) = bigSep Finset.univ fun k : Fin 11 => sP c k f :=
  pieces ((c : Thread nD τ).loc cc0_scratch3) f pset sent_apart sent_all
theorem r_pieces (f : Vec F S2x512x2048 .bf16) :
    (((c : Thread nD τ).loc cc0_scratch4) ↦{fullShare} f : sProp 𝕄) = bigSep Finset.univ fun k : Fin 11 => rP c k f :=
  pieces ((c : Thread nD τ).loc cc0_scratch4) f pset sent_apart sent_all

theorem sCol_eq (j : Fin 4) (f : Vec F S2x512x2048 .bf16) : (sP c (colK j) f : sProp 𝕄) = sCol c j f := by
  rw [sCol, View.set_slice_whole, pset_col]
theorem sRow_eq (s : Fin 8) (hs : 1 ≤ s.val) (f : Vec F S2x512x2048 .bf16) : (sP c (rowK s) f : sProp 𝕄) = sRow c s f := by
  rw [sRow, View.set_slice_whole, pset_row s hs]

/-- The send buffer, as the body first stores to it. -/
theorem s_split (f : Vec F S2x512x2048 .bf16) :
    (((c : Thread nD τ).loc cc0_scratch3) ↦{fullShare} f : sProp 𝕄)
      ⊢ iprop(bigSep Finset.univ (fun j : Fin 4 => sCol c j f) ∗ (sRow c 1 f ∗ sRow c 2 f ∗ sRow c 3 f ∗ sRow c 4 f ∗ sRow c 5 f ∗ sRow c 6 f ∗ sRow c 7 f)) := by
  rw [s_pieces, bigSep_11, bigSep_4, ← sCol_eq, ← sCol_eq, ← sCol_eq, ← sCol_eq, ← sRow_eq c 1 (by decide), ← sRow_eq c 2 (by decide), ← sRow_eq c 3 (by decide),
    ← sRow_eq c 4 (by decide), ← sRow_eq c 5 (by decide), ← sRow_eq c 6 (by decide), ← sRow_eq c 7 (by decide)]
  iintro ⟨H0, H1, H2, H3, H4, H5, H6, H7, H8, H9, H10⟩
  isplitl [H0 H1 H2 H3]
  · isplitl [H0]; · iexact H0
    isplitl [H1]; · iexact H1
    isplitl [H2]; · iexact H2
    iexact H3
  isplitl [H4]; · iexact H4
  isplitl [H5]; · iexact H5
  isplitl [H6]; · iexact H6
  isplitl [H7]; · iexact H7
  isplitl [H8]; · iexact H8
  isplitl [H9]; · iexact H9
  iexact H10

/-- What the staging copies of `O` leave of its array: one share whole, and of each slot's share the other rows. -/
def xRest (c : Dev nD) : sProp 𝕄 :=
  iprop((((c : Thread nD τ).loc main_v1) ↦{Transfers.shareDrop fullShare 16} xV m c)
    ∗ bigSep Finset.univ fun s : Fin 16 => ((c : Thread nD τ).loc main_v1) ↦[Finset.univ \ (xR c s).set]{Transfers.shareTok fullShare 16 s} xV m c)

theorem x_split : (((c : Thread nD τ).loc main_v1) ↦{fullShare} xV m c : sProp 𝕄) ⊣⊢ iprop(bigSep Finset.univ (fun s : Fin 16 => xTok m c s) ∗ xRest m c) := by
  have hs (s : Fin 16) : (((c : Thread nD τ).loc main_v1) ↦{Transfers.shareTok fullShare 16 s} xV m c : sProp 𝕄)
      ⊣⊢ iprop(xTok m c s ∗ ((c : Thread nD τ).loc main_v1) ↦[Finset.univ \ (xR c s).set]{Transfers.shareTok fullShare 16 s} xV m c) :=
    pointsTo_split_subset (Finset.subset_univ _)
  have ht := Transfers.pointsTo_toks (ℓ := (c : Thread nD τ).loc main_v1) (S := Finset.univ) (f := xV m c) (Val := Elt F) (Ix := Unit) (Name := ℕ) (U := UU) (Lvl := ℕ) (τ := τ) (sig := sig) (nD := nD) fullShare 16
  have hb := bigSep_sep' (s := (Finset.univ : Finset (Fin 16))) (Φ := fun s => xTok m c s)
    (Ψ := fun s => (((c : Thread nD τ).loc main_v1) ↦[Finset.univ \ (xR c s).set]{Transfers.shareTok fullShare 16 s} xV m c : sProp 𝕄))
  unfold xRest
  constructor
  · refine ht.1.trans ((sep_mono_right ((bigSep_mono fun s _ => (hs s).1).trans (Entails.of_eq hb))).trans ?_)
    iintro ⟨H1, H2, H3⟩
    iframe
  · refine BIBase.Entails.trans ?_ ((sep_mono_right ((Entails.of_eq hb.symm).trans (bigSep_mono fun s _ => (hs s).2))).trans ht.2)
    iintro ⟨H1, H2, H3⟩
    iframe

end Cert.KernelIdeal.Pf

end
-- ==== Proof.Ideal.Region.lean ====
/-
  The kernel's region on one device: its own semaphores, what the launch keeps for it, its cells opened when it is entered,
  the body from what it holds then to what it holds when it is left, and the region as the launch wants it.
-/
module

public import proofs.«01_k».proof.Proof.Ideal.Whole

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

/-! ## The kernel's own semaphores -/

/-- The staging semaphores of `O` and of `Wo`, two that no copy uses, and the send and receive semaphores of the pieces. -/
abbrev OwnK : Type := Fin 16 ⊕ (Fin 4 ⊕ (Fin 2 ⊕ (Fin 11 ⊕ Fin 11)))
abbrev idleSem (i : Fin 2) : DmaSem sig := ⟨21 + 8 * i.val, by have := i.isLt; show _ < 45; omega⟩
def osem : OwnK → SemLoc sig
  | .inl s => .dma (oSem s)
  | .inr (.inl j) => .dma (wSem j)
  | .inr (.inr (.inl i)) => .dma (idleSem i)
  | .inr (.inr (.inr (.inl k))) => .dma (sendS k)
  | .inr (.inr (.inr (.inr k))) => .dma (recvS k)

set_option maxRecDepth 100000 in
theorem ownFacts : Pipeline.OwnSemFacts spec0 osem := by decide +kernel

abbrev idleZ (c : Dev nD) : sProp 𝕄 := bigSep Finset.univ fun i : Fin 2 => semVal ((c : Thread nD τ), .dma (idleSem i)) 0

theorem ownSems_eq (c : Dev nD) : (Pipeline.ownSems0 osem c : sProp 𝕄)
    = iprop(bigSep Finset.univ (fun s : Fin 16 => oSemZ c s) ∗ bigSep Finset.univ (fun j : Fin 4 => wSemZ c j) ∗ idleZ c
      ∗ bigSep Finset.univ (fun k : Fin 11 => semVal (sendCell c k) 0) ∗ bigSep Finset.univ (fun k : Fin 11 => semVal (recvCell c k) 0)) := by
  unfold Pipeline.ownSems0
  rw [bigSep_univ_sum, bigSep_univ_sum, bigSep_univ_sum, bigSep_univ_sum]
  rfl

/-! ## What the launch keeps for the region, and the cells opened -/

/-- A device's rights on cells that other devices pay into, at the names `K`. -/
def rights (K : GSem nD τ sig → ℕ) (c : Dev nD) : sProp 𝕄 :=
  iprop(records m K ∗ atPos ER (barCell c) 0 ∅ 0 ∗ reached ER (barCell (pr c)) 0 ∗ dutyTok ER (barCell (pr c)) 0 ()
    ∗ bigSep Finset.univ (fun k : Fin 11 => dutyTok ER (recvCell (pr c) k) 0 ()) ∗ bigSep Finset.univ (fun k : Fin 11 => dutyTok ER (sendCell c k) 0 ()))
def credits (c : Dev nD) : sProp 𝕄 :=
  iprop(cred (tallyAt (barCell c) () 1) ∗ bigSep Finset.univ fun k : Fin 11 => cred (tallyAt (recvCell c k) () (amt k)))
/-- A cell as opened: at its first round, none of it paid. -/
def atStart (g : GSem nD τ sig) : sProp 𝕄 := iprop(atPos ER g 0 ∅ 0 ∗ reached ER g 0)

def Tk (c : Dev nD) : sProp 𝕄 :=
  iprop((∃ K, rights m K c ∗ bigSep Finset.univ (fun k : Fin 11 => openTok ER (sendCell c k)) ∗ bigSep Finset.univ (fun k : Fin 11 => openTok ER (recvCell c k))) ∗ credits c)
def Xk (c : Dev nD) : sProp 𝕄 :=
  iprop((∃ K, rights m K c ∗ bigSep Finset.univ (fun k : Fin 11 => atStart (sendCell c k)) ∗ bigSep Finset.univ (fun k : Fin 11 => atStart (recvCell c k))) ∗ credits c
    ∗ levAts L lv ∗ bigSep Finset.univ (fun s : Fin 16 => oSemZ c s) ∗ bigSep Finset.univ (fun j : Fin 4 => wSemZ c j) ∗ idleZ c)
def Yk (c : Dev nD) : sProp 𝕄 := semVal (barCell c) 0

theorem both_updates (A B : sProp 𝕄) : iprop((|={Set.univ}=> A) ∗ (|={Set.univ}=> B)) ⊢ iprop(|={Set.univ}=> (A ∗ B)) := by
  iintro ⟨H1, H2⟩
  imod H1 with H1
  imod H2 with H2
  imodintro
  isplitl [H1] <;> iassumption
theorem bigSep_fupd {I : Type} (s : Finset I) (Φ : I → sProp 𝕄) : bigSep s (fun i => iprop(|={Set.univ}=> Φ i)) ⊢ iprop(|={Set.univ}=> bigSep s Φ) := by
  classical
  induction s using Finset.induction_on with
  | empty => rw [bigSep_empty, bigSep_empty]; iintro H; imodintro; iexact H
  | insert i s hi ih =>
    rw [bigSep_insert hi, bigSep_insert hi]
    exact (sep_mono_right ih).trans (both_updates _ _)

/-- Opening a cell that the launch funded without its counter. -/
theorem open_cell (κ : ℕ) (g : GSem nD τ sig) :
    iprop(cellInv ER (rd (F := F) m) κ g ∗ (openTok ER g ∗ semVal g 0)) ⊢ iprop(|={Set.univ}=> atStart g) := by
  unfold atStart
  iintro ⟨#HI, Ho, Hs⟩
  imod (Rounds.cell_open ER (rd m) (g := g) (Set.mem_univ κ)) $$ [Ho Hs] with ⟨Ha, #Hr⟩
  · isplitr; · iexact HI
    isplitl [Ho] <;> iassumption
  imodintro
  isplitl [Ha]; · iexact Ha
  iexact Hr

theorem open_cells (K : GSem nD τ sig → ℕ) (g : Fin 11 → GSem nD τ sig) (hg : ∀ k, records m K ⊢ cellInv ER (rd (F := F) m) (K (g k)) (g k)) :
    iprop(records m K ∗ bigSep Finset.univ (fun k => openTok ER (g k)) ∗ bigSep Finset.univ (fun k => semVal (g k) 0))
      ⊢ iprop(|={Set.univ}=> bigSep Finset.univ fun k => atStart (F := F) (g k)) := by
  refine BIBase.Entails.trans ?_ (bigSep_fupd _ _)
  refine BIBase.Entails.trans (sep_mono_right (Entails.of_eq (bigSep_sep' _ _ _).symm)) ?_
  refine bigSep_with_persistent (R := records m K) (Φ := fun k => iprop(openTok ER (g k) ∗ semVal (g k) 0)) fun k _ => ?_
  exact (sep_mono_left (hg k)).trans (open_cell m _ _)

theorem enter (c : Dev nD) : iprop(Tk m c ∗ Pipeline.ownSems0 osem c ∗ levAts L lv) ⊢ (|={Set.univ}=> Xk m c : sProp 𝕄) := by
  rw [ownSems_eq]
  unfold Tk Xk rights
  iintro ⟨⟨⟨%K, ⟨#HK, Hr⟩, Hos, Hor⟩, Hc⟩, ⟨Ho, Hw, Hi, Hss, Hsr⟩, #Hlev⟩
  imod (open_cells m K (fun k => sendCell c k) (fun k => records_send m K c k)) $$ [Hos Hss] with Hos
  · isplitr; · iexact HK
    isplitl [Hos] <;> iassumption
  imod (open_cells m K (fun k => recvCell c k) (fun k => records_recv m K c k)) $$ [Hor Hsr] with Hor
  · isplitr; · iexact HK
    isplitl [Hor] <;> iassumption
  imodintro
  isplitl [Hr Hos Hor]
  · iexists K
    isplitl [Hr]
    · isplitr; · iexact HK
      iexact Hr
    isplitl [Hos] <;> iassumption
  isplitl [Hc]; · iexact Hc
  isplitr; · iexact Hlev
  isplitl [Ho]; · iexact Ho
  isplitl [Hw] <;> iassumption

/-! ## The arrays outside the region -/

abbrev bufs : Finset (DevRef τ sig) := {Proc.devRef .tc main_arg0, Proc.devRef .tc main_arg1, Proc.devRef .tc main_v1}
/-- The arrays when the region is left: the result written, the others as they were. -/
def V₂ (c : Dev nD) : Valuation τ sig (Elt F) := Function.update (V₁ m c) (Proc.devRef .tc main_v2) (outV m c)
theorem V₂_out (c : Dev nD) : V₂ m c main_v2 = outV m c := Function.update_self ..
theorem V₂_arg0 (c : Dev nD) : V₂ m c main_arg0 = V₁ m c main_arg0 := Function.update_of_ne (by decide) ..
theorem V₂_arg1 (c : Dev nD) : V₂ m c main_arg1 = V₁ m c main_arg1 := Function.update_of_ne (by decide) ..
theorem V₂_x (c : Dev nD) : V₂ m c main_v1 = V₁ m c main_v1 := Function.update_of_ne (by decide) ..

abbrev pt (c : Dev nD) (b : Ref sig .tc) (f : b.ty.Contents (Elt F)) : sProp 𝕄 := ((c : Thread nD τ).loc b) ↦{fullShare} f

theorem held_bufs (c : Dev nD) (W : Valuation τ sig (Elt F)) : (StableHlo.held (c : Thread nD τ) bufs W : sProp 𝕄)
    = iprop(pt c main_arg0 (W main_arg0) ∗ pt c main_arg1 (W main_arg1) ∗ pt c main_v1 (W main_v1)) := by
  unfold StableHlo.held
  rw [bigSep_eq_bigSepL_of_eq [Proc.devRef .tc main_arg0, Proc.devRef .tc main_arg1, Proc.devRef .tc main_v1] (by decide) (by decide)]
  rfl

/-! ## Into the body and out of it -/

variable (c : Dev nD)

theorem wIn_all (f : Vec F S1024x2048 .f32) :
    iprop(bigSep Finset.univ (fun j : Fin 4 => wP c j f) ∗ bigSep Finset.univ (fun j : Fin 4 => aP c j (aV m c)) ∗ bigSep Finset.univ (fun j : Fin 4 => wSemZ c j))
      ⊢ (bigSep Finset.univ (wIn m c) : sProp 𝕄) := by
  rw [← bigSep_sep', ← bigSep_sep']
  have h (j : Fin 4) : iprop(wP c j f ∗ aP c j (aV m c) ∗ wSemZ c j) ⊢ (wIn m c j : sProp 𝕄) := by
    iintro ⟨H1, H2⟩
    isplitl [H1]; · iexists f; iexact H1
    iexact H2
  exact bigSep_mono fun j _ => h j
theorem oIn_all (f : Vec F S16x128x1024 .f32) :
    iprop(bigSep Finset.univ (fun s : Fin 16 => oP c s f) ∗ bigSep Finset.univ (fun s : Fin 16 => xTok m c s) ∗ bigSep Finset.univ (fun s : Fin 16 => oSemZ c s))
      ⊢ (bigSep Finset.univ (oIn m c) : sProp 𝕄) := by
  rw [← bigSep_sep', ← bigSep_sep']
  have h (s : Fin 16) : iprop(oP c s f ∗ xTok m c s ∗ oSemZ c s) ⊢ (oIn m c s : sProp 𝕄) := by
    iintro ⟨H1, H2⟩
    isplitl [H1]; · iexists f; iexact H1
    iexact H2
  exact bigSep_mono fun s _ => h s

theorem barPay_all (f : Vec F S2x512x2048 .bf16) :
    iprop(bigSep Finset.univ (fun k : Fin 11 => rP c k f) ∗ bigSep Finset.univ (fun k : Fin 11 => reached ER (recvCell c k) 0)) ⊢ (barPay (pr c) : sProp 𝕄) := by
  rw [← bigSep_sep']
  unfold barPay
  rw [pr_pr]
  have h (k : Fin 11) : iprop(rP c k f ∗ reached ER (recvCell c k) 0) ⊢ (iprop((∃ f, rP c k f) ∗ reached ER (recvCell c k) 0) : sProp 𝕄) := by
    iintro ⟨H1, H2⟩
    isplitl [H1]; · iexists f; iexact H1
    iexact H2
  exact bigSep_mono fun k _ => h k

theorem sendIn_all :
    iprop(bigSep Finset.univ (fun k : Fin 11 => dutyTok ER (recvCell (pr c) k) 0 ()) ∗ bigSep Finset.univ (fun k : Fin 11 => dutyTok ER (sendCell c k) 0 ())
        ∗ bigSep Finset.univ (fun k : Fin 11 => atStart (sendCell c k)))
      ⊢ (bigSep Finset.univ (sendIn (F := F) c) : sProp 𝕄) := by
  rw [← bigSep_sep', ← bigSep_sep']
  have h (k : Fin 11) : iprop(dutyTok ER (recvCell (pr c) k) 0 () ∗ dutyTok ER (sendCell c k) 0 () ∗ atStart (sendCell c k)) ⊢ (sendIn (F := F) c k : sProp 𝕄) := by
    unfold sendIn atStart
    iintro ⟨H1, H2, H3, H4⟩
    iframe
  exact bigSep_mono fun k _ => h k

theorem recv_start :
    iprop(bigSep Finset.univ (fun k : Fin 11 => atStart (recvCell c k)) ∗ bigSep Finset.univ (fun k : Fin 11 => cred (tallyAt (recvCell c k) () (amt k))))
      ⊢ (iprop(bigSep Finset.univ (recvIn (F := F) c) ∗ bigSep Finset.univ (fun k : Fin 11 => reached ER (recvCell c k) 0)) : sProp 𝕄) := by
  rw [← bigSep_sep', ← bigSep_sep']
  have h (k : Fin 11) : iprop(atStart (recvCell c k) ∗ cred (tallyAt (recvCell c k) () (amt k))) ⊢ (iprop(recvIn (F := F) c k ∗ reached ER (recvCell c k) 0) : sProp 𝕄) := by
    unfold recvIn atStart
    iintro ⟨⟨H1, H2⟩, H3⟩
    iframe
  exact bigSep_mono fun k _ => h k

theorem sends_done :
    iprop(bigSep Finset.univ (fun j : Fin 4 => colSZ c j) ∗ (rowSZ c 1 ∗ rowSZ c 2 ∗ rowSZ c 3 ∗ rowSZ c 4 ∗ rowSZ c 5 ∗ rowSZ c 6 ∗ rowSZ c 7))
      ⊢ (bigSep Finset.univ (fun k : Fin 11 => semVal (sendCell c k) 0) : sProp 𝕄) := by
  rw [bigSep_11, bigSep_4]
  unfold colSZ rowSZ
  rw [← sendS_col, ← sendS_col, ← sendS_col, ← sendS_col, ← sendS_row 1 (by decide), ← sendS_row 2 (by decide), ← sendS_row 3 (by decide),
    ← sendS_row 4 (by decide), ← sendS_row 5 (by decide), ← sendS_row 6 (by decide), ← sendS_row 7 (by decide)]
  iintro ⟨⟨H0, H1, H2, H3⟩, H4, H5, H6, H7, H8, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem recvs_done :
    iprop(bigSep Finset.univ (fun j : Fin 4 => colRZ c j) ∗ (rowRZ c 1 ∗ rowRZ c 2 ∗ rowRZ c 3 ∗ rowRZ c 4 ∗ rowRZ c 5 ∗ rowRZ c 6 ∗ rowRZ c 7))
      ⊢ (bigSep Finset.univ (fun k : Fin 11 => semVal (recvCell c k) 0) : sProp 𝕄) := by
  rw [bigSep_11, bigSep_4]
  unfold colRZ rowRZ
  rw [← recvS_col, ← recvS_col, ← recvS_col, ← recvS_col, ← recvS_row 1 (by decide), ← recvS_row 2 (by decide), ← recvS_row 3 (by decide),
    ← recvS_row 4 (by decide), ← recvS_row 5 (by decide), ← recvS_row 6 (by decide), ← recvS_row 7 (by decide)]
  iintro ⟨⟨H0, H1, H2, H3⟩, H4, H5, H6, H7, H8, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The scratch buffers, at contents not chosen. -/
abbrev scratch (c : Dev nD) : sProp 𝕄 := Pipeline.scopedRest (Ix := Unit) (Name := ℕ) (U := UU) (Lvl := ℕ) (Val := Elt F) spec0 c

/-- What enters the body beside the result window, and what leaves it. -/
def bodyIn : sProp 𝕄 := iprop(scratch c ∗ (∃ r, prngReg c r) ∗ StableHlo.held (c : Thread nD τ) bufs (V₁ m c) ∗ Xk m c)
def bodyOut : sProp 𝕄 := iprop(scratch c ∗ (∃ r, prngReg c r) ∗ StableHlo.held (c : Thread nD τ) bufs (V₂ m c) ∗ Pipeline.ownSems0 osem c ∗ Yk c)

/-- THE BODY, from whole buffers to whole buffers. -/
theorem body_whole (W : Waits sig Unit) (f2 : Vec F S2x512x2048 .f32) (Kt : PUnit → sProp 𝕄) :
    iprop(bodyIn m c ∗ owes (c : Thread nD τ) (O₀ c) W ∗ pt c cc0_stg0_0 f2
        ∗ ((bodyOut m c ∗ free c ∗ pt c cc0_stg0_0 (outV m c)) -∗ Kt ⟨⟩))
      ⊢ runs c (onBufs cc0_body) Kt := by
  unfold bodyIn scratch Xk rights credits
  rw [scopedRest0_eq, held_bufs]
  iintro ⟨⟨⟨⟨%f3, Hs0⟩, ⟨%f4, Hs1⟩, ⟨%f5, Hs2⟩, ⟨%f6, Hs3⟩, ⟨%f7, Hs4⟩⟩, Hp, ⟨Ha0, Ha1, Hx⟩,
    ⟨%K, ⟨#HK, HatB, #HrP, HtP, HtR, HtS⟩, Hos, Hor⟩, ⟨HcB, HcR⟩, #Hlev, Hoz, Hwz, Hiz⟩, HO, Hg, Hk⟩
  ihave Ho := (Entails.of_eq (o_pieces c f3)) $$ Hs0
  ihave Hw := (Entails.of_eq (w_pieces c f4)) $$ Hs1
  ihave Hb := (Entails.of_eq (b_pieces c f5)) $$ Hs2
  ihave Hs := (s_split c f6) $$ Hs3
  icases Hs with ⟨Hsc, Hsr⟩
  ihave Hr := (Entails.of_eq (r_pieces c f7)) $$ Hs4
  ihave Ha := (show pt c main_arg1 (V₁ m c main_arg1) ⊢ bigSep Finset.univ (fun j : Fin 4 => aP c j (aV m c)) from Entails.of_eq (a_pieces c (aV m c))) $$ Ha1
  ihave Hx' := (show pt c main_v1 (V₁ m c main_v1) ⊢ iprop(bigSep Finset.univ (fun s : Fin 16 => xTok m c s) ∗ xRest m c) from (x_split m c).1) $$ Hx
  icases Hx' with ⟨Hxt, Hxr⟩
  ihave Hg' := (Entails.of_eq (g_pieces c f2)) $$ Hg
  ihave HR := (recv_start c) $$ [Hor HcR]
  · isplitl [Hor] <;> iassumption
  icases HR with ⟨HRi, HRr⟩
  ihave HB := (barPay_all c f7) $$ [Hr HRr]
  · isplitl [Hr] <;> iassumption
  ihave HW := (wIn_all m c f4) $$ [Hw Ha Hwz]
  · isplitl [Hw]; · iexact Hw
    isplitl [Ha] <;> iassumption
  ihave HOi := (oIn_all m c f3) $$ [Ho Hxt Hoz]
  · isplitl [Ho]; · iexact Ho
    isplitl [Hxt] <;> iassumption
  ihave HS := (sendIn_all c) $$ [HtR HtS Hos]
  · isplitl [HtR]; · iexact HtR
    isplitl [HtS] <;> iassumption
  iapply (wp_fupd (Fr := frame) (wpE := wpE (defs₀ (F := F)) Variants.none (c : Thread nD τ) none) (E := Set.univ) (onBufs cc0_body) Kt)
  iapply (body_run m K c f5 f6 f2 (fun x => iprop(|={Set.univ}=> Kt x)))
  isplitr
  · isplitr; · iexact HK
    iexact Hlev
  isplitl [HW HOi HB HS HRi Hb Hsc Hsr Hg' HatB HtP HcB HO]
  · unfold bodyPre
    isplitl [HW]; · iexact HW
    isplitl [HOi]; · iexact HOi
    isplitl [HB HatB HtP HcB HO]
    · isplitl [HtP]; · iexact HtP
      isplitr; · iexact HrP
      isplitl [HB]; · iexact HB
      isplitl [HatB]; · iexact HatB
      isplitl [HcB]; · iexact HcB
      iexists W; iexact HO
    isplitl [Hb]; · iexact Hb
    isplitl [Hsc]; · iexact Hsc
    isplitl [Hsr]; · iexact Hsr
    isplitl [Hg']; · iexact Hg'
    isplitl [HS]; · iexact HS
    iexact HRi
  unfold bodyPost
  iintro ⟨Hw, Ha, Hwz, Ho, Hxt, Hoz, Hb, Hs, Hcs, Hcr, Hrs, Hrr, Hr, Hg, HatB, HO⟩
  imod (Rounds.cell_close ER (rd m) (Set.mem_univ (K (barCell c))) id (duties_later m (barCell c))) $$ [HatB] with HB0
  · isplitr; · iapply (records_bar m K c); iexact HK
    iexact HatB
  imodintro
  iapply Hk
  unfold bodyOut scratch Yk
  rw [scopedRest0_eq, held_bufs, ownSems_eq, V₂_arg0, V₂_arg1, V₂_x]
  isplitr [HO Hg]
  · isplitl [Hw Ho Hb Hs Hr]
    · isplitl [Ho]; · iexists oV m c; iapply (Entails.of_eq (o_pieces c (oV m c)).symm); iexact Ho
      isplitl [Hw]; · iexists aV m c; iapply (Entails.of_eq (w_pieces c (aV m c)).symm); iexact Hw
      isplitl [Hb]; · iexists wV m c; iexact Hb
      isplitl [Hs]; · iexists sV m c; iapply (Entails.of_eq (s_pieces c (sV m c)).symm); iexact Hs
      iexists rV m c; iapply (Entails.of_eq (r_rows c (rV m c)).symm); iexact Hr
    isplitl [Hp]; · iexact Hp
    isplitl [Ha0 Ha Hxt Hxr]
    · isplitl [Ha0]; · iexact Ha0
      isplitl [Ha]; · iapply (show bigSep Finset.univ (fun j : Fin 4 => aP c j (aV m c)) ⊢ pt c main_arg1 (V₁ m c main_arg1) from Entails.of_eq (a_pieces c (aV m c)).symm); iexact Ha
      iapply (show iprop(bigSep Finset.univ (fun s : Fin 16 => xTok m c s) ∗ xRest m c) ⊢ pt c main_v1 (V₁ m c main_v1) from (x_split m c).2)
      isplitl [Hxt] <;> iassumption
    isplitr [HB0]
    · isplitl [Hoz]; · iexact Hoz
      isplitl [Hwz]; · iexact Hwz
      isplitl [Hiz]; · iexact Hiz
      isplitl [Hcs Hrs]
      · iapply (sends_done c)
        isplitl [Hcs] <;> iassumption
      iapply (recvs_done c)
      isplitl [Hcr] <;> iassumption
    iexact HB0
  isplitl [HO]; · iexact HO
  iapply (Entails.of_eq (g_pieces c (outV m c)).symm); iexact Hg

end Cert.KernelIdeal.Pf

end
-- ==== Proof.Ideal.Segment.lean ====
/-
  The kernel's region as the launch wants it: what its one grid point starts and ends with, the body's obligation met by
  `body_whole`, the levels at the staging cell, what the result array holds, and the segment of @main that the region is.
-/
module

public import proofs.«01_k».proof.Proof.Ideal.Region

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

local notation "𝒱₀" => Variants.none

/-! ## The proof data of the one grid point -/

/-- The body starts with `bodyIn` and everything owed, and ends with `bodyOut`, the result window at `outV`, owing nothing. -/
def dat0 (c : Dev nD) : Dat τ (Elt F) Unit ℕ UU ℕ cfg0 c where
  A w := V₁ m c (Proc.devRef .tc (Pipeline.arrRef spec0 w))
  after w _ := match w with | ⟨0, _⟩ => outV m c
  Φ t := if t.val = 0 then bodyIn m c else bodyOut m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | ⟨0, _⟩ => dat0 m

theorem owed_start (c : Dev nD) : (pdats m 0 c).owed 0 = O₀ c := by
  show (if (0 : Fin (cfg0.N + 1)).val = 0 then O₀ c else 0) = O₀ c
  exact if_pos rfl
theorem owed_before (c : Dev nD) : (dat0 m c).owed t0_0.castSucc = O₀ c := by
  show (if (t0_0.castSucc : Fin (grid0.N + 1)).val = 0 then O₀ c else 0) = O₀ c
  exact if_pos rfl
theorem owed_after (c : Dev nD) : (dat0 m c).owed t0_0.succ = 0 := by
  show (if (t0_0.succ : Fin (grid0.N + 1)).val = 0 then O₀ c else 0) = 0
  exact if_neg (Nat.succ_ne_zero _)
theorem owed_end (c : Dev nD) : (pdats m 0 c).owed (Fin.last _) = 0 := by
  show (if (Fin.last grid0.N).val = 0 then O₀ c else 0) = 0
  rw [Fin.val_last, if_neg (by rw [N_0]; decide)]

/-- Owing `O`, whatever has been waited for. -/
abbrev owesO (c : Dev nD) (O : CellTallies nD τ sig Unit) : sProp 𝕄 := iprop(∃ W, owes (c : Thread nD τ) O W)

theorem phi_end (c : Dev nD) : (pdats m 0 c).Φ (Fin.last _) = bodyOut m c := by
  show (if (Fin.last grid0.N).val = 0 then bodyIn m c else bodyOut m c) = bodyOut m c
  rw [Fin.val_last, if_neg (by rw [N_0]; decide)]

theorem owes_in (c : Dev nD) (t : Fin (cfg0.N + 1)) (O : CellTallies nD τ sig Unit) (h : (dat0 m c).owed t = O) :
    (owesO c O : sProp 𝕄) ⊢ (dat0 m c).owesAt () t := by
  unfold Dat.owesAt Pipeline.owesWithin Dat.bound
  rw [h]
  iintro ⟨%W, H⟩
  iexists W
  isplitr; · ipureintro; exact fun _ _ => Or.inl trivial
  iexact H
theorem owes_out (c : Dev nD) (t : Fin (cfg0.N + 1)) (O : CellTallies nD τ sig Unit) (h : (dat0 m c).owed t = O) :
    (dat0 m c).owesAt () t ⊢ (owesO c O : sProp 𝕄) := by
  unfold Dat.owesAt Pipeline.owesWithin
  rw [h]
  iintro ⟨%W, -, H⟩
  iexists W
  iexact H

theorem body_ob (c : Dev nD) : BodyObligation (dat0 m c) (defs₀ (F := F)) 𝒱₀ () Set.univ := fun t => by
  obtain rfl := fin_N0 t
  rw [bigSep_W0, bigSep_W0]
  rw [show (dat0 m c).Φ t0_0.castSucc = bodyIn m c from rfl, show (dat0 m c).Φ t0_0.succ = bodyOut m c from rfl,
    show defs₀ (F := F) .tc cfg0.body (cfg0.bodyArgs t0_0 (cfg0.slots t0_0)) = onBufs (cc0_body (F := F)) from by unfold defs₀; rw [Defs.onTc_tc]]
  iintro ⟨HΦ, HO, ⟨%d, H⟩⟩
  ihave HO' := (owes_out m c _ _ (owed_before m c)) $$ HO
  icases HO' with ⟨%W, HO⟩
  iapply (body_whole m c W ((dat0 m c).before 0 t0_0 d) _)
  isplitl [HΦ]; · iexact HΦ
  isplitl [HO]; · iexact HO
  isplitl [H]
  · iapply (Entails.of_eq (owns_whole (c : Thread nD τ) cc0_stg0_0 fullShare ((dat0 m c).before 0 t0_0 d))); iexact H
  iintro ⟨Ho, HO, Hg⟩
  isplitl [Ho]; · iexact Ho
  isplitl [HO]; · iapply (owes_in m c t0_0.succ 0 (owed_after m c)); iexact HO
  iapply (Entails.of_eq (owns_whole (c : Thread nD τ) cc0_stg0_0 fullShare (outV m c)).symm); iexact Hg

/-! ## The layout and the levels -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem lv_stage (w : Fin 1) (s : Fin (spec0 w).nbuf) : kindOf (.dma ((spec0 w).sem s)) = none := by revert s; revert w; decide

theorem start_pos {c : Dev nD} {g : GSem nD τ sig} {u : Unit} (h : 0 < O₀ c g u) : (∃ k, g = recvCell (pr c) k) ∨ g = barCell (pr c) := by
  unfold O₀ at h
  rw [Pi.add_apply, Finsupp.add_apply] at h
  rcases Nat.add_pos_iff_pos_or_pos.mp h with h | h
  · exact .inl (owed_pos h)
  · refine .inr ?_
    by_contra hne
    rw [tallyAt_apply, if_neg fun e => hne e.1] at h
    exact absurd h (Nat.lt_irrefl 0)

theorem above (c : Dev nD) (t : Fin (grid0.N + 1)) (g : GSem nD τ sig) (i : Unit) (h : 0 < (pdats m 0 c).owed t g i) : i ∈ L g ∧ (0 : ℕ) < lv g i := by
  rw [show (pdats m 0 c).owed t = if t.val = 0 then O₀ c else 0 from rfl] at h
  split at h
  · rcases start_pos h with ⟨k, rfl⟩ | rfl
    · exact ⟨by rw [L_tc]; exact Finset.mem_singleton_self _, by rw [lv_recv]; decide⟩
    · exact ⟨by rw [L_tc]; exact Finset.mem_singleton_self _, by rw [lv_bar]; decide⟩
  · exact absurd h (Nat.lt_irrefl 0)

/-! ## The result array -/

theorem arr_start (c : Dev nD) (w : Fin 1) : (pdats m 0 c).arrAt w 0 = V₁ m c (Proc.devRef .tc (Pipeline.arrRef spec0 w)) := rfl

theorem arr_end (c : Dev nD) (w : Fin 1) : (pdats m 0 c).arrAt w grid0.N = V₂ m c (Proc.devRef .tc (Pipeline.arrRef spec0 w)) := by
  obtain rfl : w = 0 := Subsingleton.elim _ _
  have e := (dat0 m c).arrAt_succ (0 : Fin 1) t0_0
  rw [if_pos (flush0_0 t0_0)] at e
  have hr : (win0_0.blk t0_0).view.read (Elt F) ((dat0 m c).arrAt (0 : Fin 1) (t0_0.val + 1)) = outV m c := by
    rw [e]; exact View.read_write_univ _ _
  have hz : (fun a => win0_0.index t0_0 a * main_v2.ty.shape.size a) = fun _ => 0 := funext fun a => by fin_cases a <;> decide
  have hw := fun f => Memref.read_access_unit_zero (Elt F) main_v2 hz (fun a => by fin_cases a <;> decide) f
  refine Eq.trans ?_ (V₂_out m c).symm
  exact (hw _).symm.trans hr

/-! ## The region as a segment -/

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem ownFacts bufs bufs (Finset.Subset.refl _) kitP rfl
    (fun c => (body_ob m c).loose)
    (fun _ => 0) O₀ (fun c => (owed_start m c).trans (zero_add _).symm) (owed_end m) (fun _ => rfl)
    (fun c => (pdats m 0 c).share_full fun _ => rfl)
    (V₁ m) (V₂ m) (fun _ b hb => absurd hb (by rw [Finset.sdiff_self]; exact Finset.notMem_empty b))
    (Tk m) Yk (Xk m) Yk (enter m)
    (fun c => by
      rw [show (pdats m 0 c).Φ 0 = bodyIn m c from rfl]; unfold bodyIn
      exact .rfl)
    (fun c => by
      rw [show (pdats m 0 c).Φ (Fin.last _) = bodyOut m c from phi_end m c]; unfold bodyOut
      exact .rfl)
    (fun c => by iintro H; imodintro; iexact H)
    (fun _ => 0)
    ⟨fun c w s => by rw [L_tc]; exact Finset.mem_singleton_self _,
      fun c w s => Nat.le_of_eq (by unfold lv; rw [if_neg (fun h => by cases h)]; exact by rw [show kindOf _ = none from lv_stage w s]),
      fun c t g i h => above m c t g i h⟩
    (fun _ => iprop(emp)) (fun c w => arr_start m c w) (fun c w => arr_end m c w)

theorem held_arr (c : Dev nD) (W : Valuation τ sig (Elt F)) :
    (StableHlo.held (c : Thread nD τ) (Pipeline.arrRefs (τ := τ) spec0) W : sProp 𝕄) = pt c main_v2 (W main_v2) := by
  rw [show Pipeline.arrRefs (τ := τ) spec0 = {Proc.devRef .tc main_v2} from by decide]
  unfold StableHlo.held
  rw [bigSep_singleton]

/-- The region takes the result array beside the other three, and what the launch kept. -/
theorem reg_pre (c : Dev nD) : iprop(pt c main_v2 (V₁ m c main_v2) ∗ StableHlo.held (c : Thread nD τ) bufs (V₁ m c) ∗ (∃ r, prngReg c r) ∗ Tk m c ∗ owesO c (O₀ c))
    ⊢ (reg0 m).pre c := by
  show _ ⊢ iprop(StableHlo.held (c : Thread nD τ) (Pipeline.arrRefs (τ := τ) spec0) (V₁ m c) ∗ (∃ r, prngReg c r)
    ∗ (StableHlo.held (c : Thread nD τ) bufs (V₁ m c) ∗ emp) ∗ Tk m c ∗ ∃ Wd, owes (c : Thread nD τ) (0 + O₀ c) Wd)
  rw [held_arr, zero_add]
  iintro ⟨Hv, Hh, Hp, HT, HO⟩
  isplitl [Hv]; · iexact Hv
  isplitl [Hp]; · iexact Hp
  isplitl [Hh]
  · isplitl [Hh]; · iexact Hh
    iempintro
  isplitl [HT] <;> iassumption

theorem reg_post (c : Dev nD) : (reg0 m).post c
    ⊢ iprop(pt c main_v2 (outV m c) ∗ StableHlo.held (c : Thread nD τ) bufs (V₂ m c) ∗ semVal (barCell c) 0 ∗ free c) := by
  show iprop(StableHlo.held (c : Thread nD τ) (Pipeline.arrRefs (τ := τ) spec0) (V₂ m c) ∗ (∃ r, prngReg c r)
    ∗ (StableHlo.held (c : Thread nD τ) bufs (V₂ m c) ∗ emp) ∗ Yk c ∗ ∃ Wd, owes (c : Thread nD τ) (0 : CellTallies nD τ sig Unit) Wd) ⊢ _
  rw [held_arr, V₂_out]
  unfold Yk
  iintro ⟨Hv, -, ⟨Hh, -⟩, Hb, HO⟩
  isplitl [Hv]; · iexact Hv
  isplitl [Hh]; · iexact Hh
  isplitl [Hb] <;> iassumption

end Cert.KernelIdeal.Pf

end
-- ==== Proof.Ideal.Launch.lean ====
/-
  The launch. The barrier cells start with their counters, the send and receive cells start closed; every device gets its own
  positions and rights to open, and the tokens of the payments it will make, which for the barrier and the receive cells
  are at its peer. Then the run: whatever the schedule, every final state has the arguments as they were, the result array at
  `outV`, and every counter at zero.
-/
module

public import proofs.«01_k».proof.Proof.Ideal.Segment
public import Idealize.ShloMosaic.Lib.Quiescent
public import Idealize.ShloMosaic.Harness.Basic

@[expose] public section

set_option maxRecDepth 16384

noncomputable section

namespace Cert.KernelIdeal.Pf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

local notation "𝒱₀" => Variants.none

/-! ## The arrays of @main -/

abbrev allBufs : Finset (DevRef τ sig) := Pipeline.ucRefs τ sig

theorem held_all (c : Dev nD) (W : Valuation τ sig (Elt F)) : (StableHlo.held (c : Thread nD τ) allBufs W : sProp 𝕄)
    = iprop(pt c main_arg0 (W main_arg0) ∗ pt c main_arg1 (W main_arg1) ∗ pt c main_v1 (W main_v1) ∗ pt c main_v2 (W main_v2)) := by
  unfold StableHlo.held
  rw [bigSep_eq_bigSepL_of_eq [Proc.devRef .tc main_arg0, Proc.devRef .tc main_arg1, Proc.devRef .tc main_v1, Proc.devRef .tc main_v2] (by decide) (by decide)]
  rfl

/-- What rides beside the arrays up to the kernel. -/
def R (c : Dev nD) : sProp 𝕄 := iprop(Tk m c ∗ (∃ r, prngReg c r) ∗ owesO c (O₀ c))
/-- What a device starts and ends with. -/
def begins (c : Dev nD) : sProp 𝕄 := iprop(StableHlo.held (c : Thread nD τ) allBufs (V₀ m c) ∗ R m c)
def ends (c : Dev nD) : sProp 𝕄 :=
  iprop((pt c main_arg0 (V₁ m c main_arg0) ∗ pt c main_arg1 (V₁ m c main_arg1) ∗ pt c main_v2 (outV m c)) ∗ semVal (barCell c) 0)

def seg0 : Pipeline.HostSeg (Name := ℕ) (U := UU) (pcfgs (F := F)) defs₀ 𝒱₀ L lv :=
  Pipeline.HostSeg.ofOps _ _ _ _ _ allBufs hostOps0
    (fun op h => Pipeline.sub_ucRefs op (List.forall_iff_forall_mem.mp hostOps0_sub op h))
    (fun op h => by obtain rfl := List.mem_singleton.mp h; rfl) (V₀ m) (R m)

def segs : List (Pipeline.Seg (pcfgs (F := F)) adm (pdats m) () defs₀ 𝒱₀ L lv) := [.host (seg0 m), .region (reg0 m)]

theorem into_region (c : Dev nD) : iprop(StableHlo.held (c : Thread nD τ) allBufs (V₁ m c) ∗ R m c) ⊢ (reg0 m).pre c := by
  refine BIBase.Entails.trans ?_ (reg_pre m c)
  rw [held_all, held_bufs]
  unfold R
  iintro ⟨⟨H0, H1, Hx, Hv⟩, HR⟩
  isplitl [Hv]; · iexact Hv
  isplitl [H0 H1 Hx]
  · isplitl [H0]; · iexact H0
    isplitl [H1] <;> iassumption
  icases HR with ⟨HT, Hp, HO⟩
  isplitl [Hp]; · iexact Hp
  isplitl [HT] <;> iassumption

theorem out_of_region (c : Dev nD) : (reg0 m).post c ⊢ iprop(ends m c ∗ ∃ W, owes (c : Thread nD τ) (0 : CellTallies nD τ sig Unit) W) := by
  refine (reg_post m c).trans ?_
  rw [held_bufs, V₂_arg0, V₂_arg1]
  unfold ends
  iintro ⟨Hv, ⟨H0, H1, -⟩, Hb, HO⟩
  isplitr [HO]
  · isplitr [Hb]
    · isplitl [H0]; · iexact H0
      isplitl [H1] <;> iassumption
    · iexact Hb
  · iexact HO

/-! ## The cells and the tokens -/

/-- The pieces' semaphores: those that count what was sent, then those that count what was received. -/
abbrev Piece : Type := Fin 11 ⊕ Fin 11
def pieceSem : Piece → SemLoc sig
  | .inl k => .dma (sendS k)
  | .inr k => .dma (recvS k)
theorem pieceSem_inj : Function.Injective pieceSem := by decide +kernel
theorem pieceSem_ne (p : Piece) : pieceSem p ≠ .reg barrier0 := by cases p <;> exact fun h => by cases h

theorem dev_of {c d : Dev nD} {s s' : SemLoc sig} (h : (((c : Thread nD τ), s) : GSem nD τ sig) = ((d : Thread nD τ), s')) : c = d :=
  congrArg (fun g : GSem nD τ sig => g.1.1) h

def barEmb : Dev nD ↪ GSem nD τ sig := ⟨fun c => barCell c, fun _ _ h => dev_of h⟩
def pieceEmb : Dev nD × Piece ↪ GSem nD τ sig :=
  ⟨fun x => ((x.1 : Thread nD τ), pieceSem x.2), fun _ _ h => Prod.ext (dev_of h) (pieceSem_inj (congrArg Prod.snd h))⟩

/-- Every cell whose payment a token stands for: the barrier's, then the pieces'. -/
def anySem : Unit ⊕ Piece → SemLoc sig
  | .inl _ => .reg barrier0
  | .inr p => pieceSem p
theorem anySem_inj : Function.Injective anySem := by
  rintro (u | p) (v | q) h
  · rfl
  · exact absurd h.symm (pieceSem_ne q)
  · exact absurd h (pieceSem_ne p)
  · exact congrArg Sum.inr (pieceSem_inj h)
def tokEmb : Dev nD × (Unit ⊕ Piece) ↪ GSem nD τ sig × ℕ × Unit :=
  ⟨fun x => (((x.1 : Thread nD τ), anySem x.2), 0, ()), fun _ _ h =>
    Prod.ext (dev_of (congrArg Prod.fst h)) (anySem_inj (congrArg (fun t : GSem nD τ sig × ℕ × Unit => t.1.2) h))⟩

abbrev barCells : Finset (GSem nD τ sig) := Finset.univ.map barEmb
abbrev pieceCells : Finset (GSem nD τ sig) := Finset.univ.map pieceEmb
abbrev allToks : Finset (GSem nD τ sig × ℕ × Unit) := Finset.univ.map tokEmb

theorem cells_disjoint : Disjoint (barCells : Finset (GSem nD τ sig)) pieceCells := by
  rw [Finset.disjoint_left]
  intro g h h'
  obtain ⟨c, -, rfl⟩ := Finset.mem_map.mp h
  obtain ⟨x, -, e⟩ := Finset.mem_map.mp h'
  exact pieceSem_ne x.2 (congrArg Prod.snd e)

theorem bar_in (c : Dev nD) : barCell c ∈ (barCells ∪ pieceCells : Finset (GSem nD τ sig)) :=
  Finset.mem_union_left _ (Finset.mem_map_of_mem barEmb (Finset.mem_univ c))
theorem piece_in (c : Dev nD) (p : Piece) : (((c : Thread nD τ), pieceSem p) : GSem nD τ sig) ∈ (barCells ∪ pieceCells : Finset (GSem nD τ sig)) :=
  Finset.mem_union_right _ (Finset.mem_map_of_mem pieceEmb (Finset.mem_univ (c, p)))

/-- The launch's ghost state. -/
abbrev protoInit : UR sig nD τ := launchOf barCells pieceCells allToks
def u₀ : UU :=
  (initOf (Pipeline.cells (Pipeline.pin (pcfgs (F := F)) adm) cellOf_inj) (Pipeline.launchToks (Pipeline.pin (pcfgs (F := F)) adm) cellOf_inj),
    (protoInit, 1))

/-- The protocol's part of it, kept on device 0 until every device's counters are at hand. -/
def parked (c : Dev nD) : sProp 𝕄 := if c = 0 then BI.own (ER protoInit) else iprop(emp)
theorem parked_all : bigSep Finset.univ (parked (F := F)) = BI.own (ER protoInit) := by
  have h : bigSep (Finset.univ.erase (0 : Dev nD)) (parked (F := F)) = bigSep (Finset.univ.erase (0 : Dev nD)) fun _ => (BI.emp : sProp 𝕄) :=
    bigSep_congr fun c hc => if_neg (Finset.ne_of_mem_erase hc)
  rw [bigSep_univ_at _ (0 : Dev nD), h, bigSep_emp_const]
  exact (BI.equiv_iff.mp sep_emp).trans (if_pos rfl)

/-! ## The records, out of the invariants allocated -/

/-- A persistent assertion that has every member of a family has the family. -/
theorem all_of {I : Type} [Fintype I] [DecidableEq I] (X : sProp 𝕄) [BI.Persistent X] (Φ : I → sProp 𝕄) (h : ∀ i, X ⊢ Φ i) : X ⊢ bigSep Finset.univ Φ := by
  have h' : iprop(X ∗ bigSep Finset.univ (fun _ : I => (BI.emp : sProp 𝕄))) ⊢ bigSep Finset.univ Φ :=
    bigSep_with_persistent fun i _ => (Entails.of_eq (BI.equiv_iff.mp sep_emp)).trans (h i)
  refine BIBase.Entails.trans (Entails.of_eq ?_) h'
  rw [bigSep_emp_const]
  exact (BI.equiv_iff.mp sep_emp).symm

theorem invariant_of (K : GSem nD τ sig → ℕ) {g : GSem nD τ sig} (hg : g ∈ (barCells ∪ pieceCells : Finset (GSem nD τ sig))) :
    (bigSep (barCells ∪ pieceCells) fun g => (cellInv ER (rd m) (K g) g : sProp 𝕄)) ⊢ cellInv ER (rd m) (K g) g := bigSep_elim hg
theorem begun_of (c : Dev nD) : (bigSep Finset.univ fun d : Dev nD => (reached ER (barCell d) 0 : sProp 𝕄)) ⊢ reached ER (barCell c) 0 :=
  bigSep_elim (Finset.mem_univ c)

theorem records_of (K : GSem nD τ sig → ℕ) :
    (bigSep (barCells ∪ pieceCells) fun g => (cellInv ER (rd m) (K g) g : sProp 𝕄)) ⊢ records m K := by
  unfold records
  iintro #H
  isplitr
  · iapply (all_of _ (fun c : Dev nD => cellInv ER (rd m) (K (barCell c)) (barCell c)) fun c => invariant_of m K (bar_in c)); iexact H
  isplitr
  · iapply (all_of _ (fun p : Dev nD × Fin 11 => cellInv ER (rd m) (K (sendCell p.1 p.2)) (sendCell p.1 p.2)) fun p => invariant_of m K (piece_in p.1 (.inl p.2))); iexact H
  · iapply (all_of _ (fun p : Dev nD × Fin 11 => cellInv ER (rd m) (K (recvCell p.1 p.2)) (recvCell p.1 p.2)) fun p => invariant_of m K (piece_in p.1 (.inr p.2))); iexact H

/-! ## What each device gets -/

abbrev openers (c : Dev nD) : sProp 𝕄 :=
  iprop(bigSep Finset.univ (fun k : Fin 11 => openTok ER (sendCell c k)) ∗ bigSep Finset.univ (fun k : Fin 11 => openTok ER (recvCell c k)))
/-- The tokens at a device's own cells, and those it will use. -/
abbrev toksAt (c : Dev nD) : sProp 𝕄 :=
  iprop(dutyTok ER (barCell c) 0 () ∗ bigSep Finset.univ (fun k : Fin 11 => dutyTok ER (sendCell c k) 0 ()) ∗ bigSep Finset.univ (fun k : Fin 11 => dutyTok ER (recvCell c k) 0 ()))
abbrev toksOf (c : Dev nD) : sProp 𝕄 :=
  iprop(dutyTok ER (barCell (pr c)) 0 () ∗ bigSep Finset.univ (fun k : Fin 11 => dutyTok ER (sendCell c k) 0 ()) ∗ bigSep Finset.univ (fun k : Fin 11 => dutyTok ER (recvCell (pr c) k) 0 ()))

theorem counters_of : bigSep Finset.univ (fun c : Dev nD => (semVal (barCell c) 0 : sProp 𝕄)) = bigSep barCells (fun g => (semVal g 0 : sProp 𝕄)) :=
  (bigSep_map (s := Finset.univ) barEmb (Φ := fun g : GSem nD τ sig => (semVal g 0 : sProp 𝕄))).symm
theorem positions_of : bigSep barCells (fun g => (atPos ER g 0 ∅ 0 : sProp 𝕄)) = bigSep Finset.univ fun c : Dev nD => atPos ER (barCell c) 0 ∅ 0 :=
  bigSep_map (s := Finset.univ) barEmb (Φ := fun g : GSem nD τ sig => (atPos ER g 0 ∅ 0 : sProp 𝕄))
theorem openers_of : bigSep pieceCells (fun g => (openTok ER g : sProp 𝕄)) = bigSep Finset.univ (openers (F := F)) := by
  rw [bigSep_map, bigSep_univ_prod]
  exact bigSep_congr fun c _ => bigSep_univ_sum _
theorem toks_of : bigSep allToks (fun x => (dutyTok ER x.1 x.2.1 x.2.2 : sProp 𝕄)) = bigSep Finset.univ (toksAt (F := F)) := by
  rw [bigSep_map, bigSep_univ_prod]
  refine bigSep_congr fun c _ => ?_
  rw [bigSep_univ_sum, bigSep_univ_sum, Finset.univ_unique, bigSep_singleton]
  rfl
/-- Every token at a barrier or a receive cell goes to the peer of the cell's device. -/
theorem toks_dealt : bigSep Finset.univ (toksAt (F := F)) = bigSep Finset.univ (toksOf (F := F)) := by
  unfold toksAt toksOf
  rw [bigSep_sep', bigSep_sep', bigSep_sep', bigSep_sep', bigSep_univ_equiv prE (fun c : Dev nD => (dutyTok ER (barCell c) 0 () : sProp 𝕄)),
    bigSep_univ_equiv prE (fun c : Dev nD => (bigSep Finset.univ (fun k : Fin 11 => dutyTok ER (recvCell c k) 0 ()) : sProp 𝕄))]
  rfl

/-! ## The credit of the waits -/

theorem pr_eq {c d : Dev nD} : pr d = c ↔ d = pr c := ⟨fun h => by rw [← h, pr_pr], fun h => by rw [h, pr_pr]⟩

theorem owed_bar (d c : Dev nD) : O₀ d (barCell c) () = if d = pr c then 1 else 0 := by
  unfold O₀
  rw [Pi.add_apply, Finsupp.add_apply, tallyAt_apply]
  have h0 : owed d 0 (barCell c) () = 0 := Nat.eq_zero_of_not_pos fun h => by
    obtain ⟨k, hk⟩ := owed_pos h
    exact absurd (congrArg Prod.snd hk) fun h => by cases h
  rw [h0, Nat.zero_add]
  by_cases h : d = pr c
  · subst h; rw [pr_pr, if_pos ⟨rfl, rfl⟩, if_pos rfl]
  · rw [if_neg fun e => h (pr_eq.mp (dev_of e.1).symm), if_neg h]

theorem owed_recv (d c : Dev nD) (k : Fin 11) : O₀ d (recvCell c k) () = if d = pr c then amt k else 0 := by
  unfold O₀ owed
  rw [Pi.add_apply, Finsupp.add_apply, tallyAt_ne_cell (fun h => by cases congrArg Prod.snd h), Finsupp.zero_apply, Nat.add_zero, Finset.sum_apply,
    Finsupp.finsetSum_apply, Finset.sum_eq_single k]
  · rw [tallyAt_apply]
    by_cases h : d = pr c
    · subst h; rw [pr_pr, if_pos ⟨rfl, rfl⟩, if_pos rfl]
    · rw [if_neg fun e => h (pr_eq.mp (dev_of e.1).symm), if_neg h]
  · intro j _ hj
    rw [tallyAt_apply, if_neg]
    intro e
    have e' : pieceSem (.inr k) = pieceSem (.inr j) := congrArg Prod.snd e.1
    exact hj (Sum.inr_injective (pieceSem_inj e')).symm
  · intro h; exact absurd (Finset.mem_filter.mpr ⟨Finset.mem_univ k, Nat.zero_le _⟩) h

/-- What the launch credits a cell that only the peer's device `pr c` owes. -/
theorem credit_of (c : Dev nD) (sm : SemLoc sig) (n : ℕ) (h : ∀ d, O₀ d ((c : Thread nD τ), sm) () = if d = pr c then n else 0) :
    tallyOn ((c : Thread nD τ), sm) (launchCredit (Pipeline.owing O₀) 0 ((c : Thread nD τ), sm)) = (tallyAt ((c : Thread nD τ), sm) () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (pr c) fun _ => n, if_pos (Finset.mem_univ _)]

def recvEmb : Fin 11 ↪ SemLoc sig := ⟨fun k => .dma (recvS k), fun _ _ h => Sum.inr_injective (pieceSem_inj (a₁ := .inr _) (a₂ := .inr _) h)⟩

theorem recv_sub : Finset.univ.map recvEmb ⊆ Finset.univ.erase (SemLoc.reg barrier0 : SemLoc sig) := by
  intro s hs
  obtain ⟨k, _, e⟩ := Finset.mem_map.mp hs
  exact Finset.mem_erase.mpr ⟨fun h => (by have e2 := e.trans h; cases e2), Finset.mem_univ _⟩

theorem credits_of (c : Dev nD) : (Pipeline.launchCred O₀ c : sProp 𝕄) ⊢ credits c := by
  unfold Pipeline.launchCred credits
  rw [bigSep_univ_at _ (SemLoc.reg barrier0), credit_of c _ 1 fun d => owed_bar d c]
  refine sep_mono_right ?_
  refine BIBase.Entails.trans (bigSep_subset recv_sub) (Entails.of_eq ?_)
  rw [bigSep_map]
  exact bigSep_congr fun k _ => congrArg cred (credit_of c _ (amt k) fun d => owed_recv d c k)

/-! ## The launch step -/

theorem counters_eq (c : Dev nD) : (unscopedSems0 c : sProp 𝕄) = semVal (barCell c) 0 := by
  unfold unscopedSems0
  rw [show (Finset.univ.filter fun sm : SemLoc sig => ¬ sm.isScoped .tc) = {SemLoc.reg barrier0} from by decide +kernel, bigSep_singleton]

/-- A device's share of the protocol and the rest of what it starts with. -/
def share (c : Dev nD) : sProp 𝕄 := iprop(atPos ER (barCell c) 0 ∅ 0 ∗ openers c ∗ toksOf c)
def rest (c : Dev nD) : sProp 𝕄 :=
  iprop(StableHlo.held (c : Thread nD τ) allBufs (V₀ m c) ∗ credits c ∗ (∃ r, prngReg c r) ∗ owesO c (O₀ c))

theorem begins_of (K : GSem nD τ sig → ℕ) (c : Dev nD) :
    iprop((records m K ∗ bigSep Finset.univ (fun d : Dev nD => reached ER (barCell d) 0)) ∗ (share c ∗ rest m c)) ⊢ begins m c := by
  unfold share rest begins R Tk rights
  iintro ⟨⟨#HK, #Hr⟩, ⟨Ha, Ho, HtB, HtS, HtR⟩, Hh, Hc, Hp, HO⟩
  isplitl [Hh]; · iexact Hh
  isplitr [Hp HO]
  · isplitr [Hc]
    · iexists K
      isplitr [Ho]
      · isplitr; · iexact HK
        isplitl [Ha]; · iexact Ha
        isplitr; · iapply (begun_of (F := F) (pr c)); iexact Hr
        isplitl [HtB]; · iexact HtB
        isplitl [HtR] <;> iassumption
      · iexact Ho
    · iexact Hc
  · isplitl [Hp] <;> iassumption

variable (ρ : Dev nD → PrngReg)

theorem given (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ parked c)
    ⊢ (iprop(rest m c ∗ (semVal (barCell c) 0 ∗ parked c)) : sProp 𝕄) := by
  rw [show (unscopedBufs c (fun b => m ((c : Thread nD τ).loc b)) : sProp 𝕄) = StableHlo.held (c : Thread nD τ) allBufs (V₀ m c) from Pipeline.unscopedBufs_held c (V₀ m c),
    counters_eq]
  unfold rest
  iintro ⟨Hh, Hs, HO, Hc, Hp, HG⟩
  isplitr [Hs HG]
  · isplitl [Hh]; · iexact Hh
    isplitl [Hc]; · iapply (credits_of (F := F) c); iexact Hc
    isplitl [Hp]; · iexists (ρ c); iexact Hp
    iexists ∅; iexact HO
  isplitl [Hs] <;> iassumption

theorem all_given : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ parked c))
    ⊢ (iprop(bigSep Finset.univ (rest m) ∗ (bigSep barCells (fun g => semVal g 0) ∗ BI.own (ER protoInit))) : sProp 𝕄) := by
  refine BIBase.Entails.trans (bigSep_mono fun c _ => given m ρ c) (Entails.of_eq ?_)
  rw [bigSep_sep', bigSep_sep', counters_of, parked_all]

theorem starts :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (begins m) : sProp 𝕄) := by
  refine BIBase.Entails.trans (sep_mono_left (all_given m ρ)) ?_
  iintro ⟨⟨HB, Hv, Hu⟩, -⟩
  imod (Rounds.fund_launch ER (rd m) cells_disjoint (fun g _ h => h) allToks) $$ [Hv Hu] with ⟨%K, -, #HI, #Hr, Ha, Ho, Ht⟩
  · isplitl [Hv] <;> iassumption
  imodintro
  iapply (bigSep_with_persistent (R := iprop(records m K ∗ bigSep Finset.univ (fun d : Dev nD => reached ER (barCell d) 0)))
    (Φ := fun c => iprop(share c ∗ rest m c)) fun c _ => begins_of m K c)
  isplitr
  · isplitr
    · iapply (records_of m K); iexact HI
    · iapply (Entails.of_eq (bigSep_map (s := Finset.univ) barEmb (Φ := fun g : GSem nD τ sig => (reached ER g 0 : sProp 𝕄)))); iexact Hr
  iapply (Entails.of_eq (bigSep_sep' Finset.univ (share (F := F)) (rest m)).symm)
  isplitr [HB]
  · unfold share
    rw [bigSep_sep', bigSep_sep']
    isplitl [Ha]; · iapply (Entails.of_eq (positions_of (F := F))); iexact Ha
    isplitl [Ho]; · iapply (Entails.of_eq (openers_of (F := F))); iexact Ho
    iapply (Entails.of_eq ((toks_of (F := F)).trans toks_dealt)); iexact Ht
  · iexact HB

/-! ## The run -/

theorem only_barrier : ∀ sm : SemLoc sig, sm.isScoped .tc = false → sm = .reg barrier0 := by decide +kernel

/-- What the launch shows of device `c`'s final memory. -/
def Final (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v2) = outV m c

theorem finishes (c : Dev nD) (s : Phys nD τ sig (Elt F)) :
    iprop(ends m c ∗ SI s) ⊢ (|={Set.univ}=> iprop(⌜Final m c s.mem ∧ s.mem.sem (barCell c) = 0⌝ ∗ SI s) : sProp 𝕄) := by
  unfold ends
  iintro ⟨⟨⟨H0, H1, Hv⟩, Hb⟩, HSI⟩
  icombine HSI H0 gives %h0
  icombine HSI H1 gives %h1
  icombine HSI Hv gives %hv
  icombine HSI Hb gives %hb
  imodintro
  isplitr
  · ipureintro
    refine ⟨⟨(Buf.eq_of_forall_mem_univ h0).trans ?_, (Buf.eq_of_forall_mem_univ h1).trans ?_, Buf.eq_of_forall_mem_univ hv⟩, by simpa using hb⟩
    · exact V_main_arg0 m c
    · exact V_main_arg1 m c
  iexact HSI

set_option backward.isDefEq.respectTransparency.types false in
/-- THE RUN. -/
theorem run_main : θ_run (defs (F := F)) (onTc (τ := τ) (main (F := F))) ⟨m, fun _ => 0, ρ⟩ (fun r => (∀ c : Dev nD, Final m c r.2) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg0 m) rfl c]; exact .rfl)
    (by simp only [segs, Pipeline.Seg.pipes_host, Pipeline.Seg.pipes_region, Pipeline.Seg.pipes_nil]; decide)
    (O₀ := O₀) (hL := L_of_ne) (G := parked) (u₀ := u₀)
    (hu₀ := by
      unfold u₀
      iintro Hu
      ihave H := (ownU_pair _ _) $$ Hu
      icases H with ⟨HP, HX⟩
      ihave H' := (own_pair_emb _ _ _) $$ HX
      icases H' with ⟨HX, -⟩
      imodintro
      isplitl [HP]; · iexact HP
      rw [parked_all]; iexact HX)
    (T₀ := begins m) (Tₙ := ends m)
    (hch := ⟨fun _ => .rfl, fun c => into_region m c, fun c => out_of_region m c⟩)
    (hinit := starts m ρ)
    (QY := fun c s => Final m c s ∧ s.sem (barCell c) = 0)
    (hfin := finishes m)
    (hQ := fun s h hs => ⟨fun c => (h c).1, sem_eq_zero hs fun c sm hsm => by
      obtain rfl := only_barrier sm hsm
      exact (h c).2⟩)

end Cert.KernelIdeal.Pf

end
-- ==== Proof.Value.Window.lean ====
/-
  The result window read at one index, at the extended reals. A change of format is the identity there, so each block that
  the kernel multiplies is the plain sum over the device's 1024 rows of `Wo`, whether it is a column piece, a block of rows to be
  sent, or a block the device keeps. So the window at batch `b`, row `r` of the half and column `j` is the device's own sum plus
  the peer's sum for the same rows.
-/
module

public import proofs.«01_k».proof.Proof.Ideal.Common
public import Idealize.ShloMosaic.Lib.MatmulPlain
public import Idealize.ShloMosaic.Lib.ValueIdx
public import Idealize.ShloMosaic.Lib.Pipeline.Value

@[expose] public section

set_option maxRecDepth 16384

noncomputable section

namespace Cert.KernelIdeal.Pf

open Idealize.ShloMosaic Idealize.ShloMosaic.TcCoe
open Idealize.ShloMosaic.ValueIdx (ix2 ix3 ix4 eq_ix2 eq_ix3)
open Cert.KernelIdeal Cert.KernelIdeal.Gen
open scoped BigOperators

/-! ## One block's product -/

/-- A block of rows by all of the columns, for either payload. -/
theorem rows_product (v : Vec Ideal S1x128x1024 .f32) (w : FVec Ideal S1024x2048 .bf16) (r : Fin 128) (j : Fin 2048) :
    matmul dot_S128x1024_S1024x2048_S128x2048_1_0_0_1_n_n none
      (truncf .bf16 (shapeCast S128x1024 v shapeCasts_S1x128x1024_S128x1024) bitsLt_bf16_f32) w (constant S128x2048 .f32 0x00000000#32) (ix2 r j)
      = ∑ k : Fin 1024, (v (ix3 0 r k) : EReal) * w (ix2 k j) := by
  refine (Ideal.matmul_plain_apply none _ w _ r j).trans ?_
  rw [ValueIdx.constant_apply, Ideal.ofBits_zero_f32, zero_add]
  refine Finset.sum_congr rfl fun k _ => ?_
  rw [ValueIdx.truncf_apply, shapeCast_apply v _ (ix2 r k) (ix3 0 r k) (by
    rw [Shape.rowMajor_val_two, Shape.rowMajor_val_three]
    show ((0 : ℕ) * 128 + r.val) * 1024 + k.val = r.val * 1024 + k.val
    omega)]

/-- The block that leaves by rows. -/
theorem pay12_apply (v : Vec Ideal S1x128x1024 .f32) (w : FVec Ideal S1024x2048 .bf16) (r : Fin 128) (j : Fin 2048) :
    k0_pay12 v w (ix3 0 r j) = ∑ k : Fin 1024, (v (ix3 0 r k) : EReal) * w (ix2 k j) := by
  unfold k0_pay12
  refine (shapeCast_apply _ shapeCasts_S128x2048_S1x128x2048 (ix3 0 r j) (ix2 r j) (by
    rw [Shape.rowMajor_val_two, Shape.rowMajor_val_three]
    show r.val * 2048 + j.val = ((0 : ℕ) * 128 + r.val) * 2048 + j.val
    omega)).trans ?_
  exact rows_product v w r j

/-- The block that stays. -/
theorem pay19_apply (v : Vec Ideal S1x128x1024 .f32) (w : FVec Ideal S1024x2048 .bf16) (r : Fin 128) (j : Fin 2048) :
    k0_pay19 v w (ix3 0 r j) = ∑ k : Fin 1024, (v (ix3 0 r k) : EReal) * w (ix2 k j) := by
  unfold k0_pay19
  refine (shapeCast_apply _ shapeCasts_S128x2048_S1x128x2048 (ix3 0 r j) (ix2 r j) (by
    rw [Shape.rowMajor_val_two, Shape.rowMajor_val_three]
    show r.val * 2048 + j.val = ((0 : ℕ) * 128 + r.val) * 2048 + j.val
    omega)).trans ?_
  exact rows_product v w r j

/-- The column piece of the first block. -/
theorem pay7_apply (v : Vec Ideal S1x128x1024 .f32) (w : FVec Ideal S1024x512 .bf16) (r : Fin 128) (j : Fin 512) :
    k0_pay7 (k0_pay2 v) w (ix3 0 r j) = ∑ k : Fin 1024, (v (ix3 0 r k) : EReal) * w (ix2 k j) := by
  unfold k0_pay7
  refine (shapeCast_apply _ shapeCasts_S128x512_S1x128x512 (ix3 0 r j) (ix2 r j) (by
    rw [Shape.rowMajor_val_two, Shape.rowMajor_val_three]
    show r.val * 512 + j.val = ((0 : ℕ) * 128 + r.val) * 512 + j.val
    omega)).trans ?_
  refine (Ideal.matmul_plain_apply none (k0_pay2 v) w (constant S128x512 .f32 0x00000000#32) r j).trans ?_
  rw [ValueIdx.constant_apply, Ideal.ofBits_zero_f32, zero_add]
  refine Finset.sum_congr rfl fun k _ => ?_
  refine congrArg (· * (w (ix2 k j) : EReal)) ?_
  exact shapeCast_apply v shapeCasts_S1x128x1024_S128x1024 (ix2 r k) (ix3 0 r k) (by
    rw [Shape.rowMajor_val_two, Shape.rowMajor_val_three]
    show ((0 : ℕ) * 128 + r.val) * 1024 + k.val = r.val * 1024 + k.val
    omega)

/-! ## The window -/

variable (m : (ℓ : Loc nD τ sig) → Buf (Elt Ideal) ℓ)

/-- Device `c`'s share of the product: the rows staged in slot `s` by its half of `Wo`. -/
def partSum (c : Dev nD) (s : Fin 16) (r : Fin 128) (j : Fin 2048) : EReal :=
  ∑ k : Fin 1024, (oV m c (ix3 s r k) : EReal) * aV m c (ix2 k j)

theorem sent_apply (c : Dev nD) (b : Fin 2) (r : Fin 512) (j : Fin 2048) :
    sV m c (ix3 b r j) = partSum m c ⟨4 * b.val + r.val / 128, by have := b.isLt; have := r.isLt; omega⟩ ⟨r.val % 128, Nat.mod_lt _ (by decide)⟩ j := by
  show (if 4 * b.val + r.val / 128 = 0 then _ else _) = _
  split
  · next h =>
    refine (pay7_apply _ _ _ _).trans ?_
    refine Finset.sum_congr rfl fun k _ => ?_
    have e : (⟨4 * b.val + r.val / 128, by have := b.isLt; have := r.isLt; omega⟩ : Fin 16) = 0 := Fin.ext h
    rw [e]
    refine congrArg ((oV m c (ix3 0 ⟨r.val % 128, Nat.mod_lt _ (by decide)⟩ k) : EReal) * ·) ?_
    show aV m c (ix2 k _) = aV m c (ix2 k j)
    exact congrArg (fun q => aV m c (ix2 k q)) (Fin.ext (by show 512 * (j.val / 512) + j.val % 512 = j.val; omega))
  · exact pay12_apply _ _ _ _

theorem kept_apply (c : Dev nD) (b : Fin 2) (r : Fin 512) (j : Fin 2048) :
    gV m c (ix3 b r j) = partSum m c ⟨8 + (4 * b.val + r.val / 128), by have := b.isLt; have := r.isLt; omega⟩ ⟨r.val % 128, Nat.mod_lt _ (by decide)⟩ j :=
  pay19_apply _ _ _ _

theorem window_apply (c : Dev nD) (b : Fin 2) (r : Fin 512) (j : Fin 2048) :
    outV m c (ix3 b r j)
      = partSum m c ⟨8 + (4 * b.val + r.val / 128), by have := b.isLt; have := r.isLt; omega⟩ ⟨r.val % 128, Nat.mod_lt _ (by decide)⟩ j
        + partSum m (pr c) ⟨4 * b.val + r.val / 128, by have := b.isLt; have := r.isLt; omega⟩ ⟨r.val % 128, Nat.mod_lt _ (by decide)⟩ j := by
  show (gV m c (ix3 b r j) : EReal) + sV m (pr c) (ix3 b r j) = _
  rw [kept_apply, sent_apply]

/-! ## The arguments behind a share -/

/-- Device `c`'s two arguments. -/
abbrev argO (c : Dev nD) : FVec Ideal S2x1024x16x64 .f32 := m ((c : Thread nD τ).loc main_arg0)
abbrev argW (c : Dev nD) : FVec Ideal S1024x2048 .f32 := m ((c : Thread nD τ).loc main_arg1)

/-- `O` flattened: column `k` is entry `k % 64` of head `k / 64`. -/
theorem flat_apply (c : Dev nD) (b : Fin 2) (r : Fin 1024) (k : Fin 1024) :
    xV m c (ix3 b r k) = argO m c (ix4 b r ⟨k.val / 64, by have := k.isLt; omega⟩ ⟨k.val % 64, Nat.mod_lt _ (by decide)⟩) := by
  have e : xV m c = shapeCast S2x1024x1024 (argO m c) shapeCasts_S2x1024x16x64_S2x1024x1024 := by
    show StableHlo.after hostOps0 (V₀ m c) main_v1 = _
    after_results <;> rfl
  rw [e]
  refine shapeCast_apply _ _ _ _ ?_
  rw [Shape.rowMajor_val_three, Shape.rowMajor_val_four]
  show ((b.val * 1024 + r.val) * 16 + k.val / 64) * 64 + k.val % 64 = (b.val * 1024 + r.val) * 1024 + k.val
  omega

/-- The rows the device keeps, as rows of its half of `O`. -/
theorem own_rows (c : Dev nD) (b : Fin 2) (r : Fin 512) (k : Fin 1024) :
    oV m c (ix3 ⟨8 + (4 * b.val + r.val / 128), by have := b.isLt; have := r.isLt; omega⟩ ⟨r.val % 128, Nat.mod_lt _ (by decide)⟩ k)
      = xV m c (ix3 b ⟨512 * (c.val % 2) + r.val, by have := r.isLt; omega⟩ k) := by
  have hb := b.isLt
  have hr := r.isLt
  refine congrArg (xV m c) ?_
  have e0 : (8 + (4 * b.val + r.val / 128)) / 4 % 2 = b.val := by omega
  have e1 : (if 8 + (4 * b.val + r.val / 128) < 8 then half (pr c) else half c) + 128 * ((8 + (4 * b.val + r.val / 128)) % 4) + r.val % 128
      = 512 * (c.val % 2) + r.val := by
    rw [if_neg (by omega)]
    show 512 * (c.val % 2) + 128 * ((8 + (4 * b.val + r.val / 128)) % 4) + r.val % 128 = 512 * (c.val % 2) + r.val
    omega
  exact congrArg₂ (fun x y => ix3 x y k) (Fin.ext e0) (Fin.ext e1)

/-- The rows the device sends, as rows of its half of `O`: those of the peer's half. -/
theorem peer_rows (c : Dev nD) (b : Fin 2) (r : Fin 512) (k : Fin 1024) :
    oV m (pr c) (ix3 ⟨4 * b.val + r.val / 128, by have := b.isLt; have := r.isLt; omega⟩ ⟨r.val % 128, Nat.mod_lt _ (by decide)⟩ k)
      = xV m (pr c) (ix3 b ⟨512 * (c.val % 2) + r.val, by have := r.isLt; omega⟩ k) := by
  have hb := b.isLt
  have hr := r.isLt
  refine congrArg (xV m (pr c)) ?_
  have e0 : (4 * b.val + r.val / 128) / 4 % 2 = b.val := by omega
  have e1 : (if 4 * b.val + r.val / 128 < 8 then half (pr (pr c)) else half (pr c)) + 128 * ((4 * b.val + r.val / 128) % 4) + r.val % 128
      = 512 * (c.val % 2) + r.val := by
    rw [if_pos (by omega), pr_pr]
    show 512 * (c.val % 2) + 128 * ((4 * b.val + r.val / 128) % 4) + r.val % 128 = 512 * (c.val % 2) + r.val
    omega
  exact congrArg₂ (fun x y => ix3 x y k) (Fin.ext e0) (Fin.ext e1)

/-- The window in terms of the arguments of the two devices. -/
theorem window_eq (c : Dev nD) (b : Fin 2) (r : Fin 512) (j : Fin 2048) :
    outV m c (ix3 b r j)
      = (∑ k : Fin 1024, (argO m c (ix4 b ⟨512 * (c.val % 2) + r.val, by have := r.isLt; omega⟩ ⟨k.val / 64, by have := k.isLt; omega⟩ ⟨k.val % 64, Nat.mod_lt _ (by decide)⟩) : EReal)
          * argW m c (ix2 k j))
        + ∑ k : Fin 1024, (argO m (pr c) (ix4 b ⟨512 * (c.val % 2) + r.val, by have := r.isLt; omega⟩ ⟨k.val / 64, by have := k.isLt; omega⟩ ⟨k.val % 64, Nat.mod_lt _ (by decide)⟩) : EReal)
          * argW m (pr c) (ix2 k j) := by
  rw [window_apply]
  refine congrArg₂ (fun x y : EReal => x + y) (Finset.sum_congr rfl fun k _ => ?_) (Finset.sum_congr rfl fun k _ => ?_)
  · rw [own_rows, flat_apply]
    exact congrArg ((_ : EReal) * ·) (congrFun (V_main_arg1 m c) _)
  · rw [peer_rows, flat_apply]
    exact congrArg ((_ : EReal) * ·) (congrFun (V_main_arg1 m (pr c)) _)

end Cert.KernelIdeal.Pf

end
-- ==== Proof.Value.Reference.lean ====
/-
  The reference's product read at one index: the sum over the 2048 columns of the flattened `O`, and that sum as the sum
  over the two halves of 1024.
-/
module

public import proofs.«01_k».proof.Proof.Gen.ReferenceIdeal
public import Idealize.ShloMosaic.PureOps.Ideal.Laws
public import Idealize.ShloMosaic.Lib.ValueIdx
public import Idealize.ShloMosaic.Lib.Pipeline.Value

@[expose] public section

set_option maxRecDepth 16384

noncomputable section

namespace Cert.ReferenceIdeal.Pf

open Idealize.ShloMosaic
open Idealize.ShloMosaic.ValueIdx (ix2 ix3 ix4 eq_ix2 eq_ix3 contrEquiv1 contrEquiv1_symm_val)
open Cert.ReferenceIdeal Cert.ReferenceIdeal.Gen
open scoped BigOperators

/-- The reference's result, of its two arguments. -/
abbrev product (o : FVec Ideal S2x1024x32x64 .f32) (w : FVec Ideal S2048x2048 .f32) : FVec Ideal S2x1024x2048 .f32 :=
  Host.dotGeneral dot_S2x1024x2048_S2048x2048_S2x1024x2048_2_0_01_1_n_n none (shapeCast S2x1024x2048 o shapeCasts_S2x1024x32x64_S2x1024x2048) w

/-- `O` flattened: column `k` is entry `k % 64` of head `k / 64`. -/
theorem flat_apply (o : FVec Ideal S2x1024x32x64 .f32) (b : Fin 2) (r : Fin 1024) (k : Fin 2048) :
    shapeCast S2x1024x2048 o shapeCasts_S2x1024x32x64_S2x1024x2048 (ix3 b r k)
      = o (ix4 b r ⟨k.val / 64, by have := k.isLt; omega⟩ ⟨k.val % 64, Nat.mod_lt _ (by decide)⟩) := by
  refine shapeCast_apply _ _ _ _ ?_
  rw [Shape.rowMajor_val_three, Shape.rowMajor_val_four]
  show ((b.val * 1024 + r.val) * 32 + k.val / 64) * 64 + k.val % 64 = (b.val * 1024 + r.val) * 2048 + k.val
  omega

theorem contr_rank : dot_S2x1024x2048_S2048x2048_S2x1024x2048_2_0_01_1_n_n.contr.rank = 1 := rfl
theorem contr_size : dot_S2x1024x2048_S2048x2048_S2x1024x2048_2_0_01_1_n_n.contr.size ⟨0, by rw [contr_rank]; exact Nat.one_pos⟩ = 2048 := rfl

/-- The product at batch `b`, row `r` and column `j`. -/
theorem product_apply (o : FVec Ideal S2x1024x32x64 .f32) (w : FVec Ideal S2048x2048 .f32) (b : Fin 2) (r : Fin 1024) (j : Fin 2048) :
    product o w (ix3 b r j)
      = ∑ k : Fin 2048, (o (ix4 b r ⟨k.val / 64, by have := k.isLt; omega⟩ ⟨k.val % 64, Nat.mod_lt _ (by decide)⟩) : EReal) * w (ix2 k j) := by
  refine (Ideal.dotGeneral_apply _ _ _ _ w (ix3 b r j)).trans ?_
  rw [← Equiv.sum_comp (contrEquiv1 dot_S2x1024x2048_S2048x2048_S2x1024x2048_2_0_01_1_n_n 2048 contr_rank contr_size).symm]
  refine Finset.sum_congr rfl fun k _ => ?_
  have hk := contrEquiv1_symm_val dot_S2x1024x2048_S2048x2048_S2x1024x2048_2_0_01_1_n_n 2048 contr_rank contr_size k
  have el : dot_S2x1024x2048_S2048x2048_S2x1024x2048_2_0_01_1_n_n.lhsIdx (ix3 b r j)
      ((contrEquiv1 dot_S2x1024x2048_S2048x2048_S2x1024x2048_2_0_01_1_n_n 2048 contr_rank contr_size).symm k) = ix3 b r k := by
    funext a; apply Fin.ext
    match a with
    | ⟨0, _⟩ => rfl
    | ⟨1, _⟩ => rfl
    | ⟨2, _⟩ => exact hk
  have er : dot_S2x1024x2048_S2048x2048_S2x1024x2048_2_0_01_1_n_n.rhsIdx (ix3 b r j)
      ((contrEquiv1 dot_S2x1024x2048_S2048x2048_S2x1024x2048_2_0_01_1_n_n 2048 contr_rank contr_size).symm k) = ix2 k j := by
    funext a; apply Fin.ext
    match a with
    | ⟨0, _⟩ => exact hk
    | ⟨1, _⟩ => rfl
  rw [el, er, flat_apply]

/-- The sum over the columns of half `h` of the flattened `O`: those of heads `16 h` to `16 h + 15`. -/
def halfSum (o : FVec Ideal S2x1024x32x64 .f32) (w : FVec Ideal S2048x2048 .f32) (b : Fin 2) (r : Fin 1024) (j : Fin 2048) (h : Fin 2) : EReal :=
  ∑ k : Fin 1024, (o (ix4 b r ⟨16 * h.val + k.val / 64, by have := k.isLt; have := h.isLt; omega⟩ ⟨k.val % 64, Nat.mod_lt _ (by decide)⟩) : EReal)
    * w (ix2 ⟨1024 * h.val + k.val, by have := k.isLt; have := h.isLt; omega⟩ j)

/-- The product is the sum of its two halves. -/
theorem product_halves (o : FVec Ideal S2x1024x32x64 .f32) (w : FVec Ideal S2048x2048 .f32) (b : Fin 2) (r : Fin 1024) (j : Fin 2048) :
    product o w (ix3 b r j) = halfSum o w b r j 0 + halfSum o w b r j 1 := by
  rw [product_apply]
  refine (Fin.sum_univ_add (a := 1024) (b := 1024) (fun k : Fin 2048 =>
    (o (ix4 b r ⟨k.val / 64, by have := k.isLt; omega⟩ ⟨k.val % 64, Nat.mod_lt _ (by decide)⟩) : EReal) * w (ix2 k j))).trans ?_
  refine congrArg₂ (fun x y : EReal => x + y) (Finset.sum_congr rfl fun k _ => ?_) (Finset.sum_congr rfl fun k _ => ?_)
  · refine congrArg₂ (fun x y : EReal => x * y) (congrArg₂ (fun p q => (o (ix4 b r p q) : EReal)) (Fin.ext ?_) (Fin.ext ?_))
      (congrArg (fun p => (w (ix2 p j) : EReal)) (Fin.ext ?_))
    · show k.val / 64 = 16 * 0 + k.val / 64
      omega
    · rfl
    · show k.val = 1024 * 0 + k.val
      omega
  · refine congrArg₂ (fun x y : EReal => x * y) (congrArg₂ (fun p q => (o (ix4 b r p q) : EReal)) (Fin.ext ?_) (Fin.ext ?_))
      (congrArg (fun p => (w (ix2 p j) : EReal)) (Fin.ext ?_))
    · show (1024 + k.val) / 64 = 16 * 1 + k.val / 64
      omega
    · show (1024 + k.val) % 64 = k.val % 64
      omega
    · rfl

/-- … in either order. -/
theorem product_by (o : FVec Ideal S2x1024x32x64 .f32) (w : FVec Ideal S2048x2048 .f32) (b : Fin 2) (r : Fin 1024) (j : Fin 2048)
    (h g : Fin 2) (hg : g.val = (h.val + 1) % 2) : product o w (ix3 b r j) = halfSum o w b r j h + halfSum o w b r j g := by
  rw [product_halves]
  match h, g with
  | 0, 1 => rfl
  | 1, 0 => exact add_comm _ _
  | 0, 0 => exact absurd hg (by decide)
  | 1, 1 => exact absurd hg (by decide)

end Cert.ReferenceIdeal.Pf

end
-- ==== Proof.Value.Equation.lean ====
/-
  The equation: when every device holds its blocks of the two arrays, the result window of every device is its block of rows of the
  reference's product. The device's own sum runs over its half of the contraction, the peer's over the other half.
-/
module

public import proofs.«01_k».proof.Proof.Value.Window
public import proofs.«01_k».proof.Proof.Value.Reference
public import Idealize.ShloMosaic.Lib.Layout

@[expose] public section

set_option maxRecDepth 16384

noncomputable section

namespace Cert.KernelIdeal.Pf

open Idealize.ShloMosaic Idealize.ShloMosaic.TcCoe
open Idealize.ShloMosaic.ValueIdx (ix2 ix3 ix4 eq_ix2 eq_ix3)
open Cert.KernelIdeal Cert.KernelIdeal.Gen
open Cert.ReferenceIdeal.Pf (product halfSum product_by)
open scoped BigOperators

/-! ## Where a block's element is in the whole array -/

theorem axis1 (c : Dev nD) : Layout.meshLin [2, 2] c.val [1] = c.val % 2 := by
  show Layout.meshCoord [2, 2] c.val 1 * 1 + 0 = c.val % 2
  show (c.val / 1) % 2 * 1 + 0 = c.val % 2
  omega

variable (o : FVec Ideal ⟨4, ![2, 1024, 32, 64]⟩ .f32) (w : FVec Ideal ⟨2, ![2048, 2048]⟩ .f32)

/-- Device `c`'s heads of `O`. -/
theorem heads_apply (c : Dev nD) (b : Fin 2) (r : Fin 1024) (h : Fin 16) (d : Fin 64) :
    Layout.blockN ⟨4, ![2, 1024, 16, 64]⟩ ⟨4, ![2, 1024, 32, 64]⟩ (Layout.meshBlock [2, 2] ![[], [], [1], []] c) o (by decide) (ix4 b r h d)
      = o (ix4 b r ⟨16 * (c.val % 2) + h.val, by have := h.isLt; omega⟩ d) := by
  refine congrArg o (funext fun a => Fin.ext ?_)
  match a with
  | ⟨0, _⟩ => show 0 * 2 + b.val = b.val; omega
  | ⟨1, _⟩ => show 0 * 1024 + r.val = r.val; omega
  | ⟨2, _⟩ => show Layout.meshLin [2, 2] c.val [1] * 16 + h.val = 16 * (c.val % 2) + h.val; rw [axis1]; omega
  | ⟨3, _⟩ => show 0 * 64 + d.val = d.val; omega

/-- Device `c`'s rows of `Wo`. -/
theorem weights_apply (c : Dev nD) (k : Fin 1024) (j : Fin 2048) :
    Layout.blockN ⟨2, ![1024, 2048]⟩ ⟨2, ![2048, 2048]⟩ (Layout.meshBlock [2, 2] ![[1], []] c) w (by decide) (ix2 k j)
      = w (ix2 ⟨1024 * (c.val % 2) + k.val, by have := k.isLt; omega⟩ j) := by
  refine congrArg w (funext fun a => Fin.ext ?_)
  match a with
  | ⟨0, _⟩ => show Layout.meshLin [2, 2] c.val [1] * 1024 + k.val = 1024 * (c.val % 2) + k.val; rw [axis1]; omega
  | ⟨1, _⟩ => show 0 * 2048 + j.val = j.val; omega

/-- Device `c`'s rows of the result. -/
theorem rows_apply (v : FVec Ideal ⟨3, ![2, 1024, 2048]⟩ .f32) (c : Dev nD) (b : Fin 2) (r : Fin 512) (j : Fin 2048) :
    Layout.blockN ⟨3, ![2, 512, 2048]⟩ ⟨3, ![2, 1024, 2048]⟩ (Layout.meshBlock [2, 2] ![[], [1], []] c) v (by decide) (ix3 b r j)
      = v (ix3 b ⟨512 * (c.val % 2) + r.val, by have := r.isLt; omega⟩ j) := by
  refine congrArg v (funext fun a => Fin.ext ?_)
  match a with
  | ⟨0, _⟩ => show 0 * 2 + b.val = b.val; omega
  | ⟨1, _⟩ => show Layout.meshLin [2, 2] c.val [1] * 512 + r.val = 512 * (c.val % 2) + r.val; rw [axis1]; omega
  | ⟨2, _⟩ => show 0 * 2048 + j.val = j.val; omega

/-! ## The equation -/

variable (m : (ℓ : Loc nD τ sig) → Buf (Elt Ideal) ℓ)

/-- Every device holds its blocks of `o` and of `w`. -/
def Holds : Prop := ∀ c : Dev nD,
  m ((c : Thread nD τ).loc main_arg0) = Layout.blockN ⟨4, ![2, 1024, 16, 64]⟩ ⟨4, ![2, 1024, 32, 64]⟩ (Layout.meshBlock [2, 2] ![[], [], [1], []] c) o (by decide)
    ∧ m ((c : Thread nD τ).loc main_arg1) = Layout.blockN ⟨2, ![1024, 2048]⟩ ⟨2, ![2048, 2048]⟩ (Layout.meshBlock [2, 2] ![[1], []] c) w (by decide)

/-- A device's sum over its own arguments is a half of the reference's sum. -/
theorem device_sum (H : Holds o w m) (c : Dev nD) (b : Fin 2) (r : Fin 1024) (j : Fin 2048) :
    (∑ k : Fin 1024, (argO m c (ix4 b r ⟨k.val / 64, by have := k.isLt; omega⟩ ⟨k.val % 64, Nat.mod_lt _ (by decide)⟩) : EReal)
        * argW m c (ix2 k j))
      = halfSum o w b r j ⟨c.val % 2, Nat.mod_lt _ (by decide)⟩ := by
  have e0 : argO m c = _ := (H c).1
  have e1 : argW m c = _ := (H c).2
  refine Finset.sum_congr rfl fun k _ => ?_
  rw [e0, e1]
  exact congrArg₂ (fun x y : EReal => x * y) (heads_apply o c b r _ _) (weights_apply w c k j)

theorem window_value (H : Holds o w m) (c : Dev nD) :
    outV m c = Layout.blockN ⟨3, ![2, 512, 2048]⟩ ⟨3, ![2, 1024, 2048]⟩ (Layout.meshBlock [2, 2] ![[], [1], []] c) (product o w) (by decide) := by
  funext i
  obtain ⟨b, r, j, rfl⟩ : ∃ b r j, i = ix3 b r j := ⟨i 0, i 1, i 2, eq_ix3 i⟩
  rw [window_eq, rows_apply, device_sum o w m H c, device_sum o w m H (pr c)]
  refine (product_by o w b _ j _ _ ?_).symm
  show (pr c).val % 2 = (c.val % 2 + 1) % 2
  rw [pr_val]
  omega

end Cert.KernelIdeal.Pf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Machine.Launch
public import proofs.«01_k».proof.Proof.Ideal.Launch
public import proofs.«01_k».proof.Proof.Value.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed ends with its arguments as they were and every counter at zero. -/
theorem kernel_frame : Cert.quiescent_Kernel (hKernel := Cert.Kernel.Gen.facts) := fun m g _ =>
  (θ_run Cert.Kernel.defs _ _).mono (fun _ h => ⟨fun c => ⟨(h.1 c).1, (h.1 c).2.1⟩, h.2⟩) (Cert.Kernel.Pf.run_main m g)

/-- So does the kernel read at the extended reals. -/
theorem ideal_frame : Cert.quiescent_KernelIdeal (hKernelIdeal := Cert.KernelIdeal.Gen.facts) := fun m g _ =>
  (θ_run Cert.KernelIdeal.defs _ _).mono (fun _ h => ⟨fun c => ⟨(h.1 c).1, (h.1 c).2.1⟩, h.2⟩) (Cert.KernelIdeal.Pf.run_main m g)

/-- So does the reference, which has no counters. -/
theorem reference_frame : Cert.quiescent_ReferenceIdeal (hReferenceIdeal := Cert.ReferenceIdeal.Gen.facts) := fun m g _ =>
  (θ_run Cert.ReferenceIdeal.defs _ _).mono (fun _ h => ⟨fun c => (h c).2, sem_eq_zero_of_no_sems rfl _⟩) (Cert.ReferenceIdeal.Value.run m g)

/-- The value: the common result is the reference's product, and each device's result array ends at its block of rows of it. -/
theorem value : Cert.algebraic_KernelIdeal_ReferenceIdeal (hKernelIdeal := Cert.KernelIdeal.Gen.facts)
    (hReferenceIdeal := Cert.ReferenceIdeal.Gen.facts) := fun m g m' g' _ H =>
  ⟨Cert.ReferenceIdeal.Pf.product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (Cert.KernelIdeal.Pf.window_value _ _ m H c), (h.1 c).1, (h.1 c).2.1⟩)
      (Cert.KernelIdeal.Pf.run_main m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  kernel_frame, ideal_frame, reference_frame, trivial, value⟩

end Cert.Proof

end
